-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x1024 : Shape := ⟨3, ![8, 8192, 1024]⟩
abbrev S8x8192x256 : Shape := ⟨3, ![8, 8192, 256]⟩
abbrev S8 : Shape := ⟨1, ![8]⟩
abbrev S2 : Shape := ⟨1, ![2]⟩
abbrev S1x256x512 : Shape := ⟨3, ![1, 256, 512]⟩
abbrev S1x8192x128 : Shape := ⟨3, ![1, 8192, 128]⟩
abbrev S4352x1024 : Shape := ⟨2, ![4352, 1024]⟩
abbrev S8x1024 : Shape := ⟨2, ![8, 1024]⟩
abbrev S128x1024 : Shape := ⟨2, ![128, 1024]⟩
abbrev S1x256x128 : Shape := ⟨3, ![1, 256, 128]⟩
abbrev S256x128 : Shape := ⟨2, ![256, 128]⟩
abbrev S1024x128 : Shape := ⟨2, ![1024, 128]⟩
abbrev S1 : Shape := ⟨1, ![1]⟩
abbrev S1x256 : Shape := ⟨2, ![1, 256]⟩
abbrev S1x1024 : Shape := ⟨2, ![1, 1024]⟩
abbrev S256x1024 : Shape := ⟨2, ![256, 1024]⟩
abbrev S32x8x1024 : Shape := ⟨3, ![32, 8, 1024]⟩
abbrev S1024 : Shape := ⟨1, ![1024]⟩
abbrev S128x256 : Shape := ⟨2, ![128, 256]⟩

abbrev nBuf : Space → Nat
  | .hbm => 7
  | .vmem => 11
  | .smem => 3
  | _ => 0

abbrev bufTy : (tb : Table) → Fin (tcTables nBuf tb) → BufTy
  | .hbm, ⟨0, _⟩ => ⟨S8x8192x1024, .fp8e4m3⟩
  | .hbm, ⟨1, _⟩ => ⟨S8x8192x256, .fp8e4m3⟩
  | .hbm, ⟨2, _⟩ => ⟨S8x8192x256, .fp8e4m3⟩
  | .hbm, ⟨3, _⟩ => ⟨S8, .f32⟩
  | .hbm, ⟨4, _⟩ => ⟨S2, .f32⟩
  | .hbm, ⟨5, _⟩ => ⟨S2, .f32⟩
  | .hbm, ⟨6, _⟩ => ⟨S8x8192x1024, .bf16⟩
  | .local _ .vmem, ⟨0, _⟩ => ⟨S1x256x512, .fp8e4m3⟩
  | .local _ .vmem, ⟨1, _⟩ => ⟨S1x256x512, .fp8e4m3⟩
  | .local _ .vmem, ⟨2, _⟩ => ⟨S1x8192x128, .fp8e4m3⟩
  | .local _ .vmem, ⟨3, _⟩ => ⟨S1x8192x128, .fp8e4m3⟩
  | .local _ .vmem, ⟨4, _⟩ => ⟨S1x8192x128, .fp8e4m3⟩
  | .local _ .vmem, ⟨5, _⟩ => ⟨S1x8192x128, .fp8e4m3⟩
  | .local _ .vmem, ⟨6, _⟩ => ⟨S1x256x512, .bf16⟩
  | .local _ .vmem, ⟨7, _⟩ => ⟨S1x256x512, .bf16⟩
  | .local _ .vmem, ⟨8, _⟩ => ⟨S4352x1024, .f32⟩
  | .local _ .vmem, ⟨9, _⟩ => ⟨S8x1024, .f32⟩
  | .local _ .vmem, ⟨10, _⟩ => ⟨S128x1024, .f32⟩
  | .local _ .smem, ⟨0, _⟩ => ⟨S8, .f32⟩
  | .local _ .smem, ⟨1, _⟩ => ⟨S2, .f32⟩
  | .local _ .smem, ⟨2, _⟩ => ⟨S2, .f32⟩
  | _, _ => ⟨S8x8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 2, 32], ![false, false, false]⟩

def k0_off1 (i : grid0.Coords) (c0_i32_8 : BitVec 32) : Fin 1 → Nat :=
  let arg1 : BitVec 32 := BitVec.ofNat 32 (i 1).val
  let c4_i32 : BitVec 32 := 4#32
  let v13 : BitVec 32 := Scalar.muli arg1 c4_i32
  let v14 : BitVec 32 := Scalar.addi v13 c0_i32_8
  let v15 : Index := Scalar.indexCast v14
  ![v15.toNat]
def k0_off2 (i : grid0.Coords) : Fin 1 → Nat :=
  let arg1 : BitVec 32 := BitVec.ofNat 32 (i 1).val
  let v17 : Index := Scalar.indexCast arg1
  ![v17.toNat]
def k0_mult1 (i : grid0.Coords) : BitVec 32 :=
  let arg2 : BitVec 32 := BitVec.ofNat 32 (i 2).val
  let c256_i32 : BitVec 32 := 256#32
  let v61 : BitVec 32 := Scalar.muli arg2 c256_i32
  v61
def k0_off3 (i : grid0.Coords) : Fin 3 → Nat :=
  let c0_21 : Index := 0#32
  let arg2 : BitVec 32 := BitVec.ofNat 32 (i 2).val
  let c256_i32 : BitVec 32 := 256#32
  let v61 : BitVec 32 := Scalar.muli arg2 c256_i32
  let v62 : BitVec 32 := v61
  let v63 : Index := Scalar.indexCast v62
  let c0_22 : Index := 0#32
  ![0, v63.toNat, 0]
def k0_mult2 (i : grid0.Coords) : BitVec 32 :=
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let c1_i32_25 : BitVec 32 := 1#32
  let v71 : BitVec 32 := Scalar.subi v3 c1_i32_25
  let c256_i32_26 : BitVec 32 := 256#32
  let v72 : BitVec 32 := Scalar.muli v71 c256_i32_26
  v72
def k0_off4 (i : grid0.Coords) : Fin 2 → Nat :=
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let c1_i32_25 : BitVec 32 := 1#32
  let v71 : BitVec 32 := Scalar.subi v3 c1_i32_25
  let c256_i32_26 : BitVec 32 := 256#32
  let v72 : BitVec 32 := Scalar.muli v71 c256_i32_26
  let v73 : BitVec 32 := v72
  let v74 : Index := Scalar.indexCast v73
  let c0_27 : Index := 0#32
  ![v74.toNat, 0]
def k0_cond1 (i : grid0.Coords) : BitVec 1 :=
  let arg2 : BitVec 32 := BitVec.ofNat 32 (i 2).val
  let c16_i32_31 : BitVec 32 := 16#32
  let v83 : BitVec 1 := Scalar.cmpi .sge arg2 c16_i32_31
  let v84 : BitVec 32 := Scalar.extui v83
  let c0_i32_32 : BitVec 32 := 0#32
  let v85 : BitVec 1 := Scalar.cmpi .ne v84 c0_i32_32
  v85

def k0_mult3 (i : grid0.Coords) : BitVec 32 :=
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c256_i32_75 : BitVec 32 := 256#32
  let v154 : BitVec 32 := Scalar.muli v1 c256_i32_75
  v154
def k0_off5 (i : grid0.Coords) : Fin 3 → Nat :=
  let c0_76 : Index := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c256_i32_75 : BitVec 32 := 256#32
  let v154 : BitVec 32 := Scalar.muli v1 c256_i32_75
  let v155 : BitVec 32 := v154
  let v156 : Index := Scalar.indexCast v155
  let c0_77 : Index := 0#32
  ![0, v156.toNat, 0]
@[reducible] def k0_t1_loop (i : grid0.Coords) : Scf.Loop 32 :=
  let arg2 : BitVec 32 := BitVec.ofNat 32 (i 2).val
  let c16_i32_33 : BitVec 32 := 16#32
  let v86 : BitVec 1 := Scalar.cmpi .sge arg2 c16_i32_33
  let c1_i32_34 : BitVec 32 := 1#32
  let c0_i32_35 : BitVec 32 := 0#32
  let v87 : BitVec 32 := Scalar.select v86 c1_i32_34 c0_i32_35
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let c1_i32_36 : BitVec 32 := 1#32
  let v88 : BitVec 32 := Scalar.subi v3 c1_i32_36
  let v89 : BitVec 32 := Scalar.subi v88 v87
  let c1_i32_38 : BitVec 32 := 1#32
  let v91 : BitVec 32 := Scalar.divsi v89 c1_i32_38
  let v92 : BitVec 32 := Scalar.muli v91 c1_i32_38
  let v93 : BitVec 32 := Scalar.addi v87 v92
  let c1_i32_39 : BitVec 32 := 1#32
  ⟨v87, v93, c1_i32_39⟩
def k0_mult4 (i : grid0.Coords) (k0_t1 : Fin (k0_t1_loop i).trips) : BitVec 32 :=
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c16_i32_33 : BitVec 32 := 16#32
  let v86 : BitVec 1 := Scalar.cmpi .sge arg2 c16_i32_33
  let c1_i32_34 : BitVec 32 := 1#32
  let c0_i32_35 : BitVec 32 := 0#32
  let v87 : BitVec 32 := Scalar.select v86 c1_i32_34 c0_i32_35
  let c1_i32_39 : BitVec 32 := 1#32
  let arg13 : BitVec 32 := Scf.iv v87 c1_i32_39 k0_t1
  let v152 : BitVec 32 := Scalar.addi v1 arg13
  let c256_i32_74 : BitVec 32 := 256#32
  let v153 : BitVec 32 := Scalar.muli v152 c256_i32_74
  v153
def k0_off6 (i : grid0.Coords) (k0_t1 : Fin (k0_t1_loop i).trips) : Fin 3 → Nat :=
  let c0_75 : Index := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c16_i32_33 : BitVec 32 := 16#32
  let v86 : BitVec 1 := Scalar.cmpi .sge arg2 c16_i32_33
  let c1_i32_34 : BitVec 32 := 1#32
  let c0_i32_35 : BitVec 32 := 0#32
  let v87 : BitVec 32 := Scalar.select v86 c1_i32_34 c0_i32_35
  let c1_i32_39 : BitVec 32 := 1#32
  let arg13 : BitVec 32 := Scf.iv v87 c1_i32_39 k0_t1
  let v152 : BitVec 32 := Scalar.addi v1 arg13
  let c256_i32_74 : BitVec 32 := 256#32
  let v153 : BitVec 32 := Scalar.muli v152 c256_i32_74
  let v154 : BitVec 32 := v153
  let v155 : Index := Scalar.indexCast v154
  let c0_76 : Index := 0#32
  ![0, v155.toNat, 0]
def k0_mult5 (i : grid0.Coords) (k0_t1 : Fin (k0_t1_loop i).trips) : BitVec 32 :=
  let arg2 : BitVec 32 := BitVec.ofNat 32 (i 2).val
  let c16_i32_33 : BitVec 32 := 16#32
  let v86 : BitVec 1 := Scalar.cmpi .sge arg2 c16_i32_33
  let c1_i32_34 : BitVec 32 := 1#32
  let c0_i32_35 : BitVec 32 := 0#32
  let v87 : BitVec 32 := Scalar.select v86 c1_i32_34 c0_i32_35
  let c1_i32_39 : BitVec 32 := 1#32
  let arg13 : BitVec 32 := Scf.iv v87 c1_i32_39 k0_t1
  let c256_i32_78 : BitVec 32 := 256#32
  let v161 : BitVec 32 := Scalar.muli arg13 c256_i32_78
  v161
def k0_off7 (i : grid0.Coords) (k0_t1 : Fin (k0_t1_loop i).trips) : Fin 2 → Nat :=
  let arg2 : BitVec 32 := BitVec.ofNat 32 (i 2).val
  let c16_i32_33 : BitVec 32 := 16#32
  let v86 : BitVec 1 := Scalar.cmpi .sge arg2 c16_i32_33
  let c1_i32_34 : BitVec 32 := 1#32
  let c0_i32_35 : BitVec 32 := 0#32
  let v87 : BitVec 32 := Scalar.select v86 c1_i32_34 c0_i32_35
  let c1_i32_39 : BitVec 32 := 1#32
  let arg13 : BitVec 32 := Scf.iv v87 c1_i32_39 k0_t1
  let c256_i32_78 : BitVec 32 := 256#32
  let v161 : BitVec 32 := Scalar.muli arg13 c256_i32_78
  let v162 : BitVec 32 := v161
  let v163 : Index := Scalar.indexCast v162
  let c0_79 : Index := 0#32
  ![v163.toNat, 0]
@[reducible] def k0_t2_loop (i : grid0.Coords) : Scf.Loop 32 :=
  let arg2 : BitVec 32 := BitVec.ofNat 32 (i 2).val
  let c16_i32_33 : BitVec 32 := 16#32
  let v86 : BitVec 1 := Scalar.cmpi .sge arg2 c16_i32_33
  let c1_i32_34 : BitVec 32 := 1#32
  let c0_i32_35 : BitVec 32 := 0#32
  let v87 : BitVec 32 := Scalar.select v86 c1_i32_34 c0_i32_35
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let c1_i32_36 : BitVec 32 := 1#32
  let v88 : BitVec 32 := Scalar.subi v3 c1_i32_36
  let v89 : BitVec 32 := Scalar.subi v88 v87
  let c1_i32_38 : BitVec 32 := 1#32
  let v91 : BitVec 32 := Scalar.divsi v89 c1_i32_38
  let v92 : BitVec 32 := Scalar.muli v91 c1_i32_38
  let v93 : BitVec 32 := Scalar.addi v87 v92
  let v90 : BitVec 32 := Scalar.addi v87 v89
  let c1_i32_40 : BitVec 32 := 1#32
  ⟨v93, v90, c1_i32_40⟩
def k0_mult6 (i : grid0.Coords) (k0_t2 : Fin (k0_t2_loop i).trips) : BitVec 32 :=
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c16_i32_33 : BitVec 32 := 16#32
  let v86 : BitVec 1 := Scalar.cmpi .sge arg2 c16_i32_33
  let c1_i32_34 : BitVec 32 := 1#32
  let c0_i32_35 : BitVec 32 := 0#32
  let v87 : BitVec 32 := Scalar.select v86 c1_i32_34 c0_i32_35
  let v2 : BitVec 32 := Scalar.subi arg2 v1
  let c1_i32 : BitVec 32 := 1#32
  let v3 : BitVec 32 := Scalar.addi v2 c1_i32
  let c1_i32_36 : BitVec 32 := 1#32
  let v88 : BitVec 32 := Scalar.subi v3 c1_i32_36
  let v89 : BitVec 32 := Scalar.subi v88 v87
  let c1_i32_38 : BitVec 32 := 1#32
  let v91 : BitVec 32 := Scalar.divsi v89 c1_i32_38
  let v92 : BitVec 32 := Scalar.muli v91 c1_i32_38
  let v93 : BitVec 32 := Scalar.addi v87 v92
  let c1_i32_40 : BitVec 32 := 1#32
  let arg13 : BitVec 32 := Scf.iv v93 c1_i32_40 k0_t2
  let v152 : BitVec 32 := Scalar.addi v1 arg13
  let c256_i32_74 : BitVec 32 := 256#32
  let v153 : BitVec 32 := Scalar.muli v152 c256_i32_74
  v153
def k0_off8 (i : grid0.Coords) (k0_t2 : Fin (k0_t2_loop i).trips) : Fin 3 → Nat :=
  let c0_75 : Index := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c16_i32_33 : BitVec 32 := 16#32
  let v86 : BitVec 1 := Scalar.cmpi .sge arg2 c16_i32_33
  let c1_i32_34 : BitVec 32 := 1#32
  let c0_i32_35 : BitVec 32 := 0#32
  let v87 : BitVec 32 := Scalar.select v86 c1_i32_34 c0_i32_35
  let v2 : BitVec 32 := Scalar.subi arg2 v1
  let c1_i32 : BitVec 32 := 1#32
  let v3 : BitVec 32 := Scalar.addi v2 c1_i32
  let c1_i32_36 : BitVec 32 := 1#32
  let v88 : BitVec 32 := Scalar.subi v3 c1_i32_36
  let v89 : BitVec 32 := Scalar.subi v88 v87
  let c1_i32_38 : BitVec 32 := 1#32
  let v91 : BitVec 32 := Scalar.divsi v89 c1_i32_38
  let v92 : BitVec 32 := Scalar.muli v91 c1_i32_38
  let v93 : BitVec 32 := Scalar.addi v87 v92
  let c1_i32_40 : BitVec 32 := 1#32
  let arg13 : BitVec 32 := Scf.iv v93 c1_i32_40 k0_t2
  let v152 : BitVec 32 := Scalar.addi v1 arg13
  let c256_i32_74 : BitVec 32 := 256#32
  let v153 : BitVec 32 := Scalar.muli v152 c256_i32_74
  let v154 : BitVec 32 := v153
  let v155 : Index := Scalar.indexCast v154
  let c0_76 : Index := 0#32
  ![0, v155.toNat, 0]
def k0_mult7 (i : grid0.Coords) (k0_t2 : Fin (k0_t2_loop i).trips) : BitVec 32 :=
  let arg2 : BitVec 32 := BitVec.ofNat 32 (i 2).val
  let c16_i32_33 : BitVec 32 := 16#32
  let v86 : BitVec 1 := Scalar.cmpi .sge arg2 c16_i32_33
  let c1_i32_34 : BitVec 32 := 1#32
  let c0_i32_35 : BitVec 32 := 0#32
  let v87 : BitVec 32 := Scalar.select v86 c1_i32_34 c0_i32_35
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let c1_i32_36 : BitVec 32 := 1#32
  let v88 : BitVec 32 := Scalar.subi v3 c1_i32_36
  let v89 : BitVec 32 := Scalar.subi v88 v87
  let c1_i32_38 : BitVec 32 := 1#32
  let v91 : BitVec 32 := Scalar.divsi v89 c1_i32_38
  let v92 : BitVec 32 := Scalar.muli v91 c1_i32_38
  let v93 : BitVec 32 := Scalar.addi v87 v92
  let c1_i32_40 : BitVec 32 := 1#32
  let arg13 : BitVec 32 := Scf.iv v93 c1_i32_40 k0_t2
  let c256_i32_78 : BitVec 32 := 256#32
  let v161 : BitVec 32 := Scalar.muli arg13 c256_i32_78
  v161
def k0_off9 (i : grid0.Coords) (k0_t2 : Fin (k0_t2_loop i).trips) : Fin 2 → Nat :=
  let arg2 : BitVec 32 := BitVec.ofNat 32 (i 2).val
  let c16_i32_33 : BitVec 32 := 16#32
  let v86 : BitVec 1 := Scalar.cmpi .sge arg2 c16_i32_33
  let c1_i32_34 : BitVec 32 := 1#32
  let c0_i32_35 : BitVec 32 := 0#32
  let v87 : BitVec 32 := Scalar.select v86 c1_i32_34 c0_i32_35
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let c1_i32_36 : BitVec 32 := 1#32
  let v88 : BitVec 32 := Scalar.subi v3 c1_i32_36
  let v89 : BitVec 32 := Scalar.subi v88 v87
  let c1_i32_38 : BitVec 32 := 1#32
  let v91 : BitVec 32 := Scalar.divsi v89 c1_i32_38
  let v92 : BitVec 32 := Scalar.muli v91 c1_i32_38
  let v93 : BitVec 32 := Scalar.addi v87 v92
  let c1_i32_40 : BitVec 32 := 1#32
  let arg13 : BitVec 32 := Scf.iv v93 c1_i32_40 k0_t2
  let c256_i32_78 : BitVec 32 := 256#32
  let v161 : BitVec 32 := Scalar.muli arg13 c256_i32_78
  let v162 : BitVec 32 := v161
  let v163 : Index := Scalar.indexCast v162
  let c0_79 : Index := 0#32
  ![v163.toNat, 0]
@[reducible] def k0_t3_loop (i : grid0.Coords) : Scf.Loop 32 :=
  let c0_i32_45 : BitVec 32 := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let v100 : BitVec 32 := Scalar.subi v3 c0_i32_45
  let c1_i32_46 : BitVec 32 := 1#32
  let v102 : BitVec 32 := Scalar.divsi v100 c1_i32_46
  let v103 : BitVec 32 := Scalar.muli v102 c1_i32_46
  let v104 : BitVec 32 := Scalar.addi c0_i32_45 v103
  let c1_i32_47 : BitVec 32 := 1#32
  ⟨c0_i32_45, v104, c1_i32_47⟩
def k0_mult8 (i : grid0.Coords) (k0_t3 : Fin (k0_t3_loop i).trips) : BitVec 32 :=
  let c0_i32_45 : BitVec 32 := 0#32
  let c1_i32_47 : BitVec 32 := 1#32
  let arg13 : BitVec 32 := Scf.iv c0_i32_45 c1_i32_47 k0_t3
  let c256_i32_74 : BitVec 32 := 256#32
  let v152 : BitVec 32 := Scalar.muli arg13 c256_i32_74
  v152
def k0_off10 (i : grid0.Coords) (k0_t3 : Fin (k0_t3_loop i).trips) : Fin 2 → Nat :=
  let c0_i32_45 : BitVec 32 := 0#32
  let c1_i32_47 : BitVec 32 := 1#32
  let arg13 : BitVec 32 := Scf.iv c0_i32_45 c1_i32_47 k0_t3
  let c256_i32_74 : BitVec 32 := 256#32
  let v152 : BitVec 32 := Scalar.muli arg13 c256_i32_74
  let v153 : BitVec 32 := v152
  let v154 : Index := Scalar.indexCast v153
  let c0_75 : Index := 0#32
  ![v154.toNat, 0]
@[reducible] def k0_t4_loop (i : grid0.Coords) : Scf.Loop 32 :=
  let c0_i32_45 : BitVec 32 := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let v100 : BitVec 32 := Scalar.subi v3 c0_i32_45
  let c1_i32_46 : BitVec 32 := 1#32
  let v102 : BitVec 32 := Scalar.divsi v100 c1_i32_46
  let v103 : BitVec 32 := Scalar.muli v102 c1_i32_46
  let v104 : BitVec 32 := Scalar.addi c0_i32_45 v103
  let v101 : BitVec 32 := Scalar.addi c0_i32_45 v100
  let c1_i32_48 : BitVec 32 := 1#32
  ⟨v104, v101, c1_i32_48⟩
def k0_mult9 (i : grid0.Coords) (k0_t4 : Fin (k0_t4_loop i).trips) : BitVec 32 :=
  let c0_i32_45 : BitVec 32 := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let v100 : BitVec 32 := Scalar.subi v3 c0_i32_45
  let c1_i32_46 : BitVec 32 := 1#32
  let v102 : BitVec 32 := Scalar.divsi v100 c1_i32_46
  let v103 : BitVec 32 := Scalar.muli v102 c1_i32_46
  let v104 : BitVec 32 := Scalar.addi c0_i32_45 v103
  let c1_i32_48 : BitVec 32 := 1#32
  let arg13 : BitVec 32 := Scf.iv v104 c1_i32_48 k0_t4
  let c256_i32_74 : BitVec 32 := 256#32
  let v152 : BitVec 32 := Scalar.muli arg13 c256_i32_74
  v152
def k0_off11 (i : grid0.Coords) (k0_t4 : Fin (k0_t4_loop i).trips) : Fin 2 → Nat :=
  let c0_i32_45 : BitVec 32 := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let v100 : BitVec 32 := Scalar.subi v3 c0_i32_45
  let c1_i32_46 : BitVec 32 := 1#32
  let v102 : BitVec 32 := Scalar.divsi v100 c1_i32_46
  let v103 : BitVec 32 := Scalar.muli v102 c1_i32_46
  let v104 : BitVec 32 := Scalar.addi c0_i32_45 v103
  let c1_i32_48 : BitVec 32 := 1#32
  let arg13 : BitVec 32 := Scf.iv v104 c1_i32_48 k0_t4
  let c256_i32_74 : BitVec 32 := 256#32
  let v152 : BitVec 32 := Scalar.muli arg13 c256_i32_74
  let v153 : BitVec 32 := v152
  let v154 : Index := Scalar.indexCast v153
  let c0_75 : Index := 0#32
  ![v154.toNat, 0]
@[reducible] def k0_t5_loop (i : grid0.Coords) : Scf.Loop 32 :=
  let c0_i32_54 : BitVec 32 := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let v115 : BitVec 32 := Scalar.subi v3 c0_i32_54
  let c1_i32_56 : BitVec 32 := 1#32
  let v117 : BitVec 32 := Scalar.divsi v115 c1_i32_56
  let v118 : BitVec 32 := Scalar.muli v117 c1_i32_56
  let v119 : BitVec 32 := Scalar.addi c0_i32_54 v118
  let c1_i32_57 : BitVec 32 := 1#32
  ⟨c0_i32_54, v119, c1_i32_57⟩
def k0_mult10 (i : grid0.Coords) (k0_t5 : Fin (k0_t5_loop i).trips) : BitVec 32 :=
  let c0_i32_54 : BitVec 32 := 0#32
  let c1_i32_57 : BitVec 32 := 1#32
  let arg13 : BitVec 32 := Scf.iv c0_i32_54 c1_i32_57 k0_t5
  let c256_i32_74 : BitVec 32 := 256#32
  let v152 : BitVec 32 := Scalar.muli arg13 c256_i32_74
  v152
def k0_off12 (i : grid0.Coords) (k0_t5 : Fin (k0_t5_loop i).trips) : Fin 2 → Nat :=
  let c0_i32_54 : BitVec 32 := 0#32
  let c1_i32_57 : BitVec 32 := 1#32
  let arg13 : BitVec 32 := Scf.iv c0_i32_54 c1_i32_57 k0_t5
  let c256_i32_74 : BitVec 32 := 256#32
  let v152 : BitVec 32 := Scalar.muli arg13 c256_i32_74
  let v153 : BitVec 32 := v152
  let v154 : Index := Scalar.indexCast v153
  let c0_75 : Index := 0#32
  ![v154.toNat, 0]
def k0_mult11 (i : grid0.Coords) (k0_t5 : Fin (k0_t5_loop i).trips) : BitVec 32 :=
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c0_i32_54 : BitVec 32 := 0#32
  let c1_i32_57 : BitVec 32 := 1#32
  let arg13 : BitVec 32 := Scf.iv c0_i32_54 c1_i32_57 k0_t5
  let v163 : BitVec 32 := Scalar.addi v1 arg13
  let c256_i32_78 : BitVec 32 := 256#32
  let v164 : BitVec 32 := Scalar.muli v163 c256_i32_78
  v164
def k0_off13 (i : grid0.Coords) (k0_t5 : Fin (k0_t5_loop i).trips) : Fin 3 → Nat :=
  let c0_79 : Index := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c0_i32_54 : BitVec 32 := 0#32
  let c1_i32_57 : BitVec 32 := 1#32
  let arg13 : BitVec 32 := Scf.iv c0_i32_54 c1_i32_57 k0_t5
  let v163 : BitVec 32 := Scalar.addi v1 arg13
  let c256_i32_78 : BitVec 32 := 256#32
  let v164 : BitVec 32 := Scalar.muli v163 c256_i32_78
  let v165 : BitVec 32 := v164
  let v166 : Index := Scalar.indexCast v165
  let c0_80 : Index := 0#32
  ![0, v166.toNat, 0]
@[reducible] def k0_t6_loop (i : grid0.Coords) : Scf.Loop 32 :=
  let c0_i32_54 : BitVec 32 := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let v115 : BitVec 32 := Scalar.subi v3 c0_i32_54
  let c1_i32_56 : BitVec 32 := 1#32
  let v117 : BitVec 32 := Scalar.divsi v115 c1_i32_56
  let v118 : BitVec 32 := Scalar.muli v117 c1_i32_56
  let v119 : BitVec 32 := Scalar.addi c0_i32_54 v118
  let v116 : BitVec 32 := Scalar.addi c0_i32_54 v115
  let c1_i32_58 : BitVec 32 := 1#32
  ⟨v119, v116, c1_i32_58⟩
def k0_mult12 (i : grid0.Coords) (k0_t6 : Fin (k0_t6_loop i).trips) : BitVec 32 :=
  let c0_i32_54 : BitVec 32 := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let v115 : BitVec 32 := Scalar.subi v3 c0_i32_54
  let c1_i32_56 : BitVec 32 := 1#32
  let v117 : BitVec 32 := Scalar.divsi v115 c1_i32_56
  let v118 : BitVec 32 := Scalar.muli v117 c1_i32_56
  let v119 : BitVec 32 := Scalar.addi c0_i32_54 v118
  let c1_i32_58 : BitVec 32 := 1#32
  let arg13 : BitVec 32 := Scf.iv v119 c1_i32_58 k0_t6
  let c256_i32_74 : BitVec 32 := 256#32
  let v152 : BitVec 32 := Scalar.muli arg13 c256_i32_74
  v152
def k0_off14 (i : grid0.Coords) (k0_t6 : Fin (k0_t6_loop i).trips) : Fin 2 → Nat :=
  let c0_i32_54 : BitVec 32 := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let v2 : BitVec 32 := Scalar.subi arg2 v1
  let c1_i32 : BitVec 32 := 1#32
  let v3 : BitVec 32 := Scalar.addi v2 c1_i32
  let v115 : BitVec 32 := Scalar.subi v3 c0_i32_54
  let c1_i32_56 : BitVec 32 := 1#32
  let v117 : BitVec 32 := Scalar.divsi v115 c1_i32_56
  let v118 : BitVec 32 := Scalar.muli v117 c1_i32_56
  let v119 : BitVec 32 := Scalar.addi c0_i32_54 v118
  let c1_i32_58 : BitVec 32 := 1#32
  let arg13 : BitVec 32 := Scf.iv v119 c1_i32_58 k0_t6
  let c256_i32_74 : BitVec 32 := 256#32
  let v152 : BitVec 32 := Scalar.muli arg13 c256_i32_74
  let v153 : BitVec 32 := v152
  let v154 : Index := Scalar.indexCast v153
  let c0_75 : Index := 0#32
  ![v154.toNat, 0]
def k0_mult13 (i : grid0.Coords) (k0_t6 : Fin (k0_t6_loop i).trips) : BitVec 32 :=
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c0_i32_54 : BitVec 32 := 0#32
  let v2 : BitVec 32 := Scalar.subi arg2 v1
  let c1_i32 : BitVec 32 := 1#32
  let v3 : BitVec 32 := Scalar.addi v2 c1_i32
  let v115 : BitVec 32 := Scalar.subi v3 c0_i32_54
  let c1_i32_56 : BitVec 32 := 1#32
  let v117 : BitVec 32 := Scalar.divsi v115 c1_i32_56
  let v118 : BitVec 32 := Scalar.muli v117 c1_i32_56
  let v119 : BitVec 32 := Scalar.addi c0_i32_54 v118
  let c1_i32_58 : BitVec 32 := 1#32
  let arg13 : BitVec 32 := Scf.iv v119 c1_i32_58 k0_t6
  let v163 : BitVec 32 := Scalar.addi v1 arg13
  let c256_i32_78 : BitVec 32 := 256#32
  let v164 : BitVec 32 := Scalar.muli v163 c256_i32_78
  v164
def k0_off15 (i : grid0.Coords) (k0_t6 : Fin (k0_t6_loop i).trips) : Fin 3 → Nat :=
  let c0_79 : Index := 0#32
  let arg2 : BitVec 32 := BitVec.ofNat 32 (i 2).val
  let c16_i32 : BitVec 32 := 16#32
  let v0 : BitVec 32 := Scalar.subi arg2 c16_i32
  let c0_i32 : BitVec 32 := 0#32
  let v1 : BitVec 32 := Scalar.maxsi v0 c0_i32
  let c0_i32_54 : BitVec 32 := 0#32
  let v2 : BitVec 32 := Scalar.subi arg2 v1
  let c1_i32 : BitVec 32 := 1#32
  let v3 : BitVec 32 := Scalar.addi v2 c1_i32
  let v115 : BitVec 32 := Scalar.subi v3 c0_i32_54
  let c1_i32_56 : BitVec 32 := 1#32
  let v117 : BitVec 32 := Scalar.divsi v115 c1_i32_56
  let v118 : BitVec 32 := Scalar.muli v117 c1_i32_56
  let v119 : BitVec 32 := Scalar.addi c0_i32_54 v118
  let c1_i32_58 : BitVec 32 := 1#32
  let arg13 : BitVec 32 := Scf.iv v119 c1_i32_58 k0_t6
  let v163 : BitVec 32 := Scalar.addi v1 arg13
  let c256_i32_78 : BitVec 32 := 256#32
  let v164 : BitVec 32 := Scalar.muli v163 c256_i32_78
  let v165 : BitVec 32 := v164
  let v166 : Index := Scalar.indexCast v165
  let c0_80 : Index := 0#32
  ![0, v166.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x256x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8192x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x8192x1024 : Shape := ⟨3, ![8, 8192, 1024]⟩
abbrev S8x8192x256 : Shape := ⟨3, ![8, 8192, 256]⟩
abbrev S8 : Shape := ⟨1, ![8]⟩
abbrev S2 : Shape := ⟨1, ![2]⟩
abbrev S8x8192x2x4x128 : Shape := ⟨5, ![8, 8192, 2, 4, 128]⟩
abbrev S8x8192x2x128 : Shape := ⟨4, ![8, 8192, 2, 128]⟩
abbrev S2x4 : Shape := ⟨2, ![2, 4]⟩
abbrev S2x1 : Shape := ⟨2, ![2, 1]⟩
abbrev S8x2x8192x8192x4 : Shape := ⟨5, ![8, 2, 8192, 8192, 4]⟩
abbrev S8x2x4x8192x8192 : Shape := ⟨5, ![8, 2, 4, 8192, 8192]⟩
abbrev S1x2x4x1x1 : Shape := ⟨5, ![1, 2, 4, 1, 1]⟩
abbrev S8192x8192 : Shape := ⟨2, ![8192, 8192]⟩
abbrev S1x1x1x8192x8192 : Shape := ⟨5, ![1, 1, 1, 8192, 8192]⟩
abbrev S8x2x4x8192 : Shape := ⟨4, ![8, 2, 4, 8192]⟩
abbrev S8x2x4x8192x1 : Shape := ⟨5, ![8, 2, 4, 8192, 1]⟩
abbrev S8x2x128x4x8192 : Shape := ⟨5, ![8, 2, 128, 4, 8192]⟩
abbrev S1x1x2x1x1 : Shape := ⟨5, ![1, 1, 2, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x8192x1024, .fp8e4m3⟩
  | .hbm, ⟨1, _⟩ => ⟨S8x8192x256, .fp8e4m3⟩
  | .hbm, ⟨2, _⟩ => ⟨S8x8192x256, .fp8e4m3⟩
  | .hbm, ⟨3, _⟩ => ⟨S8, .f32⟩
  | .hbm, ⟨4, _⟩ => ⟨S2, .f32⟩
  | .hbm, ⟨5, _⟩ => ⟨S2, .f32⟩
  | .hbm, ⟨6, _⟩ => ⟨S8x8192x1024, .bf16⟩
  | .local _ .vmem, ⟨0, _⟩ => ⟨S8x8192x1024, .fp8e4m3⟩
  | .local _ .vmem, ⟨1, _⟩ => ⟨S8x8192x256, .fp8e4m3⟩
  | .local _ .vmem, ⟨2, _⟩ => ⟨S8x8192x256, .fp8e4m3⟩
  | .local _ .vmem, ⟨3, _⟩ => ⟨S8, .f32⟩
  | .local _ .vmem, ⟨4, _⟩ => ⟨S2, .f32⟩
  | .local _ .vmem, ⟨5, _⟩ => ⟨S2, .f32⟩
  | .local _ .vmem, ⟨6, _⟩ => ⟨S8x8192x1024, .bf16⟩
  | _, _ => ⟨S8x8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x8192x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.P.Offsets.lean ====
module

public import proofs.«01_k».proof.Proof.Gen.Kernel.Skeleton
public import Idealize.ShloMosaic.Lib.LoopRemainder

/-!
Where one grid point of the attention kernel reads and writes, in plain numbers.

A grid point's last coordinate `b` is its block of 256 queries. The keys it looks at are the chunks of 256
from chunk `lo b` to chunk `b`: `cnt b` chunks. Slot `j` of the scratch holds the chunk `lo b + j`. The loop
over the chunks that need no mask starts at slot `fst b` and ends before the last slot.
-/

@[expose] public section

noncomputable section

namespace Cert.Kernel.Hand

open Cert.Kernel Cert.Kernel.Gen
open Idealize.ShloMosaic

/-- The first chunk of 256 keys that query block `b` looks at. -/
def lo (b : ℕ) : ℕ := b - 16
/-- How many chunks of keys query block `b` looks at. -/
def cnt (b : ℕ) : ℕ := b - (b - 16) + 1
/-- The first slot that needs no mask. -/
def fst (b : ℕ) : ℕ := if 16 ≤ b then 1 else 0

/-- A grid point with query block `a`. -/
def gp (a : Fin 32) : grid0.Coords := fun j => match j with
  | 0 => ⟨0, by decide⟩
  | 1 => ⟨0, by decide⟩
  | 2 => a

theorem blk_lt (i : grid0.Coords) : (i 2).val < 32 := (i 2).isLt

theorem cond1_iff (i : grid0.Coords) : k0_cond1 i = 1#1 ↔ 16 ≤ (i 2).val := by
  have h : ∀ a : Fin 32, k0_cond1 (gp a) = 1#1 ↔ 16 ≤ a.val := by decide +kernel
  exact h (i 2)

theorem off3_eq (i : grid0.Coords) : k0_off3 i = ![0, (i 2).val * 256, 0] := by
  have h : ∀ a : Fin 32, k0_off3 (gp a) = ![0, a.val * 256, 0] := by decide +kernel
  exact h (i 2)

theorem off4_eq (i : grid0.Coords) : k0_off4 i = ![(cnt (i 2).val - 1) * 256, 0] := by
  have h : ∀ a : Fin 32, k0_off4 (gp a) = ![(cnt a.val - 1) * 256, 0] := by decide +kernel
  exact h (i 2)

theorem off5_eq (i : grid0.Coords) : k0_off5 i = ![0, lo (i 2).val * 256, 0] := by
  have h : ∀ a : Fin 32, k0_off5 (gp a) = ![0, lo a.val * 256, 0] := by decide +kernel
  exact h (i 2)

theorem trips1 (i : grid0.Coords) : (k0_t1_loop i).trips = cnt (i 2).val - 1 - fst (i 2).val := by
  have h : ∀ a : Fin 32, (k0_t1_loop (gp a)).trips = cnt a.val - 1 - fst a.val := by decide +kernel
  exact h (i 2)

theorem trips3 (i : grid0.Coords) : (k0_t3_loop i).trips = cnt (i 2).val := by
  have h : ∀ a : Fin 32, (k0_t3_loop (gp a)).trips = cnt a.val := by decide +kernel
  exact h (i 2)

theorem trips5 (i : grid0.Coords) : (k0_t5_loop i).trips = cnt (i 2).val := by
  have h : ∀ a : Fin 32, (k0_t5_loop (gp a)).trips = cnt a.val := by decide +kernel
  exact h (i 2)

theorem trips2 (i : grid0.Coords) : (k0_t2_loop i).trips = 0 := by
  have h : ∀ a : Fin 32, (k0_t2_loop (gp a)).trips = 0 := by decide +kernel
  exact h (i 2)

theorem trips4 (i : grid0.Coords) : (k0_t4_loop i).trips = 0 := by
  have h : ∀ a : Fin 32, (k0_t4_loop (gp a)).trips = 0 := by decide +kernel
  exact h (i 2)

theorem trips6 (i : grid0.Coords) : (k0_t6_loop i).trips = 0 := by
  have h : ∀ a : Fin 32, (k0_t6_loop (gp a)).trips = 0 := by decide +kernel
  exact h (i 2)

theorem off6_eq (i : grid0.Coords) (k : Fin (k0_t1_loop i).trips) :
    k0_off6 i k = ![0, (lo (i 2).val + (fst (i 2).val + k.val)) * 256, 0] := by
  have h : ∀ a : Fin 32, ∀ k : Fin (k0_t1_loop (gp a)).trips,
      k0_off6 (gp a) k = ![0, (lo a.val + (fst a.val + k.val)) * 256, 0] := by decide +kernel
  exact h (i 2) k

theorem off7_eq (i : grid0.Coords) (k : Fin (k0_t1_loop i).trips) :
    k0_off7 i k = ![(fst (i 2).val + k.val) * 256, 0] := by
  have h : ∀ a : Fin 32, ∀ k : Fin (k0_t1_loop (gp a)).trips,
      k0_off7 (gp a) k = ![(fst a.val + k.val) * 256, 0] := by decide +kernel
  exact h (i 2) k

theorem off10_eq (i : grid0.Coords) (k : Fin (k0_t3_loop i).trips) : k0_off10 i k = ![k.val * 256, 0] := by
  have h : ∀ a : Fin 32, ∀ k : Fin (k0_t3_loop (gp a)).trips, k0_off10 (gp a) k = ![k.val * 256, 0] := by
    decide +kernel
  exact h (i 2) k

theorem off12_eq (i : grid0.Coords) (k : Fin (k0_t5_loop i).trips) : k0_off12 i k = ![k.val * 256, 0] := by
  have h : ∀ a : Fin 32, ∀ k : Fin (k0_t5_loop (gp a)).trips, k0_off12 (gp a) k = ![k.val * 256, 0] := by
    decide +kernel
  exact h (i 2) k

theorem off13_eq (i : grid0.Coords) (k : Fin (k0_t5_loop i).trips) :
    k0_off13 i k = ![0, (lo (i 2).val + k.val) * 256, 0] := by
  have h : ∀ a : Fin 32, ∀ k : Fin (k0_t5_loop (gp a)).trips,
      k0_off13 (gp a) k = ![0, (lo a.val + k.val) * 256, 0] := by decide +kernel
  exact h (i 2) k

theorem off1_eq (i : grid0.Coords) (g : Fin 4) : k0_off1 i (BitVec.ofNat 32 g.val) = ![(i 1).val * 4 + g.val] := by
  have h : ∀ b : Fin 2, ∀ g : Fin 4, k0_off1 (fun j => match j with
      | 0 => ⟨0, by decide⟩
      | 1 => b
      | 2 => ⟨0, by decide⟩) (BitVec.ofNat 32 g.val) = ![b.val * 4 + g.val] := by decide +kernel
  exact h (i 1) g

theorem off2_eq (i : grid0.Coords) : k0_off2 i = ![(i 1).val] := by
  have h : ∀ b : Fin 2, k0_off2 (fun j => match j with
      | 0 => ⟨0, by decide⟩
      | 1 => b
      | 2 => ⟨0, by decide⟩) = ![b.val] := by decide +kernel
  exact h (i 1)

/-- The slots in use, and the chunks they stand for, lie inside the scratch and inside the keys. -/
theorem cnt_le (b : ℕ) : cnt b ≤ 17 := by unfold cnt; omega
theorem cnt_pos (b : ℕ) : 0 < cnt b := by unfold cnt; omega
theorem fst_le (b : ℕ) (_h : b < 32) : fst b ≤ cnt b - 1 := by unfold fst cnt; split <;> omega
theorem lo_add (b : ℕ) (j : ℕ) (h : b < 32) (hj : j < cnt b) : lo b + j < 32 := by unfold lo cnt at *; omega

end Cert.Kernel.Hand
-- ==== Proof.P.Slots.lean ====
module

public import proofs.«01_k».proof.Proof.P.Offsets
public import Idealize.ShloMosaic.Lib.WritesUnit
public import Idealize.ShloMosaic.Lib.VecWindow

/-!
The scratch that holds the logits, read slot by slot, and the keys and values read chunk by chunk.
-/

@[expose] public section

noncomputable section

namespace Cert.Kernel.Hand

open Cert.Kernel Cert.Kernel.Gen
open Idealize.ShloMosaic

variable {F : FTy → Type}

theorem slot_inb (j : ℕ) : ∀ a, (![min j 16 * 256, 0] : Fin 2 → ℕ) a + S256x1024.size a ≤ S4352x1024.size a := by
  intro a
  fin_cases a
  · show min j 16 * 256 + 256 ≤ 4352
    omega
  · show 0 + 1024 ≤ 1024
    omega

theorem chunk_inb (j : ℕ) :
    ∀ a, (![0, min j 31 * 256, 0] : Fin 3 → ℕ) a + S1x256x128.size a ≤ S1x8192x128.size a := by
  intro a
  fin_cases a
  · show 0 + 1 ≤ 1
    omega
  · show min j 31 * 256 + 256 ≤ 8192
    omega
  · show 0 + 128 ≤ 128
    omega

/-- Slot `j` of the scratch: its rows `256 j` to `256 j + 255`. -/
def slot (M : Memref sig .tc .vmem S4352x1024 .f32) (f : BufTy.Contents (Elt F) M.view.ty) (j : ℕ) :
    Vec F S256x1024 .f32 :=
  M.view.readAt (Elt F) (Rect.unit (s := S4352x1024) ![min j 16 * 256, 0] S256x1024.size (slot_inb j)).toLoadRect f

/-- Chunk `j` of the keys (or the values): their rows `256 j` to `256 j + 255`. -/
def chunk (M : Memref sig .tc .vmem S1x8192x128 .fp8e4m3) (f : BufTy.Contents (Elt F) M.view.ty) (j : ℕ) :
    Vec F S1x256x128 .fp8e4m3 :=
  M.view.readAt (Elt F) (Rect.unit (s := S1x8192x128) ![0, min j 31 * 256, 0] S1x256x128.size (chunk_inb j)).toLoadRect f

theorem scal_inb8 (n : ℕ) : ∀ a, (![min n 7] : Fin 1 → ℕ) a + S1.size a ≤ S8.size a := by
  intro a
  fin_cases a
  show min n 7 + 1 ≤ 8
  omega

theorem scal_inb2 (n : ℕ) : ∀ a, (![min n 1] : Fin 1 → ℕ) a + S1.size a ≤ S2.size a := by
  intro a
  fin_cases a
  show min n 1 + 1 ≤ 2
  omega

/-- Entry `n` of an array of eight scalars. -/
def scal8 (M : Memref sig .tc .smem S8 .f32) (f : BufTy.Contents (Elt F) M.view.ty) (n : ℕ) : Elt F .f32 :=
  M.view.readAt (Elt F) (Rect.unit (s := S8) ![min n 7] S1.size (scal_inb8 n)).toLoadRect f (Shape.Idx.first (show 0 < S1.numel by decide))

/-- Entry `n` of an array of two scalars. -/
def scal2 (M : Memref sig .tc .smem S2 .f32) (f : BufTy.Contents (Elt F) M.view.ty) (n : ℕ) : Elt F .f32 :=
  M.view.readAt (Elt F) (Rect.unit (s := S2) ![min n 1] S1.size (scal_inb2 n)).toLoadRect f (Shape.Idx.first (show 0 < S1.numel by decide))

theorem load_scal8 (M : Memref sig .tc .smem S8 .f32) (f : BufTy.Contents (Elt F) M.view.ty) {off : Fin 1 → ℕ}
    (inb : ∀ a, off a + S1.size a ≤ S8.size a) (n : ℕ) (hn : n ≤ 7) (h : off = ![n]) (hp) :
    M.view.readAt (Elt F) (Rect.unit (s := S8) off S1.size inb).toLoadRect f (Shape.Idx.first hp) = scal8 M f n := by
  have e : off = ![min n 7] := by rw [h, show min n 7 = n by omega]
  subst e
  rfl

theorem load_scal2 (M : Memref sig .tc .smem S2 .f32) (f : BufTy.Contents (Elt F) M.view.ty) {off : Fin 1 → ℕ}
    (inb : ∀ a, off a + S1.size a ≤ S2.size a) (n : ℕ) (hn : n ≤ 1) (h : off = ![n]) (hp) :
    M.view.readAt (Elt F) (Rect.unit (s := S2) off S1.size inb).toLoadRect f (Shape.Idx.first hp) = scal2 M f n := by
  have e : off = ![min n 1] := by rw [h, show min n 1 = n by omega]
  subst e
  rfl

variable (M : Memref sig .tc .vmem S4352x1024 .f32) (f : BufTy.Contents (Elt F) M.view.ty)

/-- A load of a slot's rows reads the slot. -/
theorem load_slot {off : Fin 2 → ℕ} (inb : ∀ a, off a + S256x1024.size a ≤ S4352x1024.size a) (j : ℕ) (hj : j ≤ 16)
    (h : off = ![j * 256, 0]) :
    M.view.readAt (Elt F) (Rect.unit (s := S4352x1024) off S256x1024.size inb).toLoadRect f = slot M f j := by
  have e : off = ![min j 16 * 256, 0] := by rw [h, show min j 16 = j by omega]
  subst e
  rfl

/-- A load of a chunk's rows reads the chunk. -/
theorem load_chunk (M : Memref sig .tc .vmem S1x8192x128 .fp8e4m3) (f : BufTy.Contents (Elt F) M.view.ty)
    {off : Fin 3 → ℕ} (inb : ∀ a, off a + S1x256x128.size a ≤ S1x8192x128.size a) (j : ℕ) (hj : j < 32)
    (h : off = ![0, j * 256, 0]) :
    M.view.readAt (Elt F) (Rect.unit (s := S1x8192x128) off S1x256x128.size inb).toLoadRect f = chunk M f j := by
  have e : off = ![0, min j 31 * 256, 0] := by rw [h, show min j 31 = j by omega]
  subst e
  rfl

/-- A store of a slot's rows, read back at the same slot. -/
theorem slot_write_same {off : Fin 2 → ℕ} (inb : ∀ a, off a + S256x1024.size a ≤ S4352x1024.size a)
    (w : Vec F S256x1024 .f32) (L : List (View.Piece (Elt F) S4352x1024 .f32)) (j : ℕ) (hj : j ≤ 16)
    (h : off = ![j * 256, 0]) :
    slot M (M.view.writes (Elt F) f (⟨Rect.unit (s := S4352x1024) off S256x1024.size inb, w⟩ :: L)) j = w := by
  have e : min j 16 = j := by omega
  funext x
  unfold slot
  rw [View.readAt_apply]
  refine View.read_writes_cons_unit_of_mem M.view f inb w L _ x h fun a => ?_
  fin_cases a
  · show min j 16 * 256 + 1 * (x 0).val = j * 256 + (x 0).val
    rw [e, one_mul]
  · show 0 + 1 * (x 1).val = 0 + (x 1).val
    rw [one_mul]

/-- A store of a slot's rows leaves the other slots. -/
theorem slot_write_other {off : Fin 2 → ℕ} (inb : ∀ a, off a + S256x1024.size a ≤ S4352x1024.size a)
    (w : Vec F S256x1024 .f32) (L : List (View.Piece (Elt F) S4352x1024 .f32)) (j j' : ℕ) (hj' : j' ≤ 16)
    (h : off = ![j * 256, 0]) (hne : j' ≠ j) :
    slot M (M.view.writes (Elt F) f (⟨Rect.unit (s := S4352x1024) off S256x1024.size inb, w⟩ :: L)) j'
      = slot M (M.view.writes (Elt F) f L) j' := by
  have e : min j' 16 = j' := by omega
  funext x
  unfold slot
  rw [View.readAt_apply, View.readAt_apply]
  refine View.read_writes_cons_unit_of_not_mem M.view f inb w L _ h (0 : Fin 2) ?_
  have hx : (x 0).val < 256 := (x 0).isLt
  show min j' 16 * 256 + 1 * (x 0).val < j * 256 ∨ j * 256 + 256 ≤ min j' 16 * 256 + 1 * (x 0).val
  rw [e]
  omega

end Cert.Kernel.Hand
-- ==== Proof.P.Loops.lean ====
module

public import proofs.«01_k».proof.Proof.P.Slots
public import proofs.«01_k».proof.Proof.Gen.Kernel.Loops
public import Idealize.ShloMosaic.Lib.Exec
public import Idealize.ShloMosaic.Lib.Tactic
public import Idealize.ShloMosaic.Lib.Pipeline.Kit

/-!
The kernel's three counted loops, each by what its memory holds before trip `k`.

The first loop writes the logits of the chunks that need no mask and keeps the running column maximum; the
second turns every slot of logits into exponentials and carries their running sum; the third adds one chunk's
share of the weighted values to the accumulator. The loops that the program has after each of them, for a
remainder of the step never run: the step is one.
-/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

section Args

variable (𝒱 : Variants) (c : Dev nD) (bd : Option 𝒱.V) (E : Set ℕ) (i : grid0.Coords)
  (arg3 : Memref sig .tc .smem S8 .f32) (harg3 : arg3.IsWhole) (arg4 : Memref sig .tc .smem S2 .f32)
  (harg4 : arg4.IsWhole) (arg5 : Memref sig .tc .smem S2 .f32) (harg5 : arg5.IsWhole)
  (arg6 : Memref sig .tc .vmem S1x256x512 .fp8e4m3) (harg6 : arg6.IsWhole)
  (arg7 : Memref sig .tc .vmem S1x8192x128 .fp8e4m3) (harg7 : arg7.IsWhole)
  (arg8 : Memref sig .tc .vmem S1x8192x128 .fp8e4m3) (harg8 : arg8.IsWhole)
  (arg9 : Memref sig .tc .vmem S1x256x512 .bf16) (harg9 : arg9.IsWhole)
  (arg10 : Memref sig .tc .vmem S4352x1024 .f32) (harg10 : arg10.IsWhole)
  (arg11 : Memref sig .tc .vmem S8x1024 .f32) (harg11 : arg11.IsWhole)
  (arg12 : Memref sig .tc .vmem S128x1024 .f32) (harg12 : arg12.IsWhole)
  (arg1 arg2 v1 v3 : BitVec 32)
  (v12 : FVec F S1024x128 .fp8e4m3) (v53 : FVec F S1x1024 .f32) (v58 : IVec S256x1024 32)

/-! ## The loop over the chunks without a mask -/

section First

variable (X7 : BufTy.Contents (Elt F) arg7.view.ty) (G10 : BufTy.Contents (Elt F) arg10.view.ty)
  (G11 : BufTy.Contents (Elt F) arg11.view.ty)

/-- The chunk of keys that trip `k` loads. -/
abbrev key1 (k : Fin (k0_t1_loop i).trips) : Vec F S1x256x128 .fp8e4m3 :=
  arg7.view.readAt (Elt F) (Rect.unit (s := S1x8192x128) (k0_off6 i k) S1x256x128.size (k0_off6_inb i k)).toLoadRect X7

/-- What the trips before `k` have stored in the scratch of logits, the last first. -/
def logits1 : ℕ → List (View.Piece (Elt F) S4352x1024 .f32)
  | 0 => []
  | k + 1 => if h : k < (k0_t1_loop i).trips then
      ⟨Rect.unit (s := S4352x1024) (k0_off7 i ⟨k, h⟩) S256x1024.size (k0_off7_inb i ⟨k, h⟩), k0_pay14 v12 v53 (key1 i arg7 X7 ⟨k, h⟩)⟩
        :: logits1 k
    else logits1 k

/-- What the trips before `k` have stored in the scratch of the running maximum, the last first. -/
def colmax1 : ℕ → List (View.Piece (Elt F) S8x1024 .f32)
  | 0 => []
  | k + 1 => if h : k < (k0_t1_loop i).trips then
      ⟨Rect.unit (s := S8x1024) ![0, 0] S8x1024.size inb_S8x1024_S8x1024_0_0,
          k0_pay15 v12 v53 (key1 i arg7 X7 ⟨k, h⟩)
            (arg11.view.readAt (Elt F) (Rect.unit (s := S8x1024) ![0, 0] S8x1024.size inb_S8x1024_S8x1024_0_0).toLoadRect (arg11.view.writes (Elt F) G11 (colmax1 k)))⟩
        :: colmax1 k
    else colmax1 k

theorem logits1_succ (k : Fin (k0_t1_loop i).trips) :
    logits1 i arg7 v12 v53 X7 (k.val + 1) =
        ⟨Rect.unit (s := S4352x1024) (k0_off7 i k) S256x1024.size (k0_off7_inb i k), k0_pay14 v12 v53 (key1 i arg7 X7 k)⟩
          :: logits1 i arg7 v12 v53 X7 k.val := by
  rw [logits1, dif_pos k.isLt]

theorem colmax1_succ (k : Fin (k0_t1_loop i).trips) :
    colmax1 i arg7 arg11 v12 v53 X7 G11 (k.val + 1) =
        ⟨Rect.unit (s := S8x1024) ![0, 0] S8x1024.size inb_S8x1024_S8x1024_0_0,
          k0_pay15 v12 v53 (key1 i arg7 X7 k)
            (arg11.view.readAt (Elt F) (Rect.unit (s := S8x1024) ![0, 0] S8x1024.size inb_S8x1024_S8x1024_0_0).toLoadRect
              (arg11.view.writes (Elt F) G11 (colmax1 i arg7 arg11 v12 v53 X7 G11 k.val)))⟩
          :: colmax1 i arg7 arg11 v12 v53 X7 G11 k.val := by
  rw [colmax1, dif_pos k.isLt]

set_option warn.classDefReducibility false in
/-- The first loop by its invariant. -/
@[sl_loop] def loopInv1 (v70 : FVec F S256x1024 .f32) (v75 : Vec F S256x1024 .f32) (init : BitVec 32) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg2 v1 v3 v12 v53 v58 v70 v75 init where
  inv k _ := iprop((arg7.view.loc (c : Thread nD τ) ↦[arg7.view.set]{fullShare} X7)
      ∗ (∃ f, (arg10.view.loc (c : Thread nD τ) ↦[arg10.view.set]{fullShare} f) ∗ ⌜f = arg10.view.writes (Elt F) G10 (logits1 i arg7 v12 v53 X7 k)⌝)
      ∗ (∃ f, (arg11.view.loc (c : Thread nD τ) ↦[arg11.view.set]{fullShare} f) ∗ ⌜f = arg11.view.writes (Elt F) G11 (colmax1 i arg7 arg11 v12 v53 X7 G11 k)⌝))
  step k acc := by
    iintro ⟨H7, ⟨%f10, H10, %h10⟩, ⟨%f11, H11, %h11⟩⟩
    subst h10 h11
    unfold k0_t1_body
    sl_exec
    sl_step
    rw [logits1_succ, colmax1_succ]
    isplitl [H7]; · iexact H7
    isplitl [H10]
    · iexists _; isplitl [H10]; · iexact H10
      ipureintro; rfl
    iexists _; isplitl [H11]; · iexact H11
    ipureintro; rfl

set_option warn.classDefReducibility false in
/-- Its remainder loop, which has no trip. -/
@[sl_loop] def loopInv2 (v70 : FVec F S256x1024 .f32) (v75 : Vec F S256x1024 .f32) (init : BitVec 32) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg2 v1 v3 v12 v53 v58 v70 v75 init where
  inv k _ := iprop(⌜True⌝)
  step k acc := (Nat.not_lt_zero _ (Nat.lt_of_lt_of_eq k.isLt (trips2 i))).elim

end First

/-! ## The loop of exponentials -/

section Second

variable (v96 : Vec F S8x1024 .f32) (G10 : BufTy.Contents (Elt F) arg10.view.ty)

/-- What the trips before `k` have stored in the scratch, the last first: exponentials in the place of logits. -/
def exps3 : ℕ → List (View.Piece (Elt F) S4352x1024 .f32)
  | 0 => []
  | k + 1 => if h : k < (k0_t3_loop i).trips then
      ⟨Rect.unit (s := S4352x1024) (k0_off10 i ⟨k, h⟩) S256x1024.size (k0_off10_inb i ⟨k, h⟩),
          k0_pay22 v96 (arg10.view.readAt (Elt F) (Rect.unit (s := S4352x1024) (k0_off10 i ⟨k, h⟩) S256x1024.size (k0_off10_inb i ⟨k, h⟩)).toLoadRect (arg10.view.writes (Elt F) G10 (exps3 k)))⟩
        :: exps3 k
    else exps3 k

/-- The running sum before trip `k`. -/
def sum3 (init : FVec F S8x1024 .f32) : ℕ → FVec F S8x1024 .f32
  | 0 => init
  | k + 1 => if h : k < (k0_t3_loop i).trips then
      k0_pay23 v96 (sum3 init k)
        (arg10.view.readAt (Elt F) (Rect.unit (s := S4352x1024) (k0_off10 i ⟨k, h⟩) S256x1024.size (k0_off10_inb i ⟨k, h⟩)).toLoadRect
          (arg10.view.writes (Elt F) G10 (exps3 i arg10 v96 G10 k)))
    else sum3 init k

theorem exps3_succ (k : Fin (k0_t3_loop i).trips) :
    exps3 i arg10 v96 G10 (k.val + 1) =
        ⟨Rect.unit (s := S4352x1024) (k0_off10 i k) S256x1024.size (k0_off10_inb i k),
          k0_pay22 v96 (arg10.view.readAt (Elt F) (Rect.unit (s := S4352x1024) (k0_off10 i k) S256x1024.size (k0_off10_inb i k)).toLoadRect
              (arg10.view.writes (Elt F) G10 (exps3 i arg10 v96 G10 k.val)))⟩
          :: exps3 i arg10 v96 G10 k.val := by
  rw [exps3, dif_pos k.isLt]

theorem sum3_succ (init : FVec F S8x1024 .f32) (k : Fin (k0_t3_loop i).trips) :
    sum3 i arg10 v96 G10 init (k.val + 1) = k0_pay23 v96 (sum3 i arg10 v96 G10 init k.val)
        (arg10.view.readAt (Elt F) (Rect.unit (s := S4352x1024) (k0_off10 i k) S256x1024.size (k0_off10_inb i k)).toLoadRect
          (arg10.view.writes (Elt F) G10 (exps3 i arg10 v96 G10 k.val))) := by
  rw [sum3, dif_pos k.isLt]

set_option warn.classDefReducibility false in
/-- The second loop by its invariant. -/
@[sl_loop] def loopInv3 (v70 : FVec F S256x1024 .f32) (v75 : Vec F S256x1024 .f32) (init : FVec F S8x1024 .f32) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 arg2 v1 v3 v12 v53 v58 v70 v75 v96 init where
  inv k acc := iprop((∃ f, (arg10.view.loc (c : Thread nD τ) ↦[arg10.view.set]{fullShare} f) ∗ ⌜f = arg10.view.writes (Elt F) G10 (exps3 i arg10 v96 G10 k)⌝)
      ∗ ⌜acc = sum3 i arg10 v96 G10 init k⌝)
  step k acc := by
    iintro ⟨⟨%f10, H10, %h10⟩, %ha⟩
    subst h10 ha
    unfold k0_t3_body
    sl_exec
    sl_step
    rw [exps3_succ, sum3_succ]
    isplitl [H10]
    · iexists _; isplitl [H10]; · iexact H10
      ipureintro; rfl
    ipureintro; rfl

set_option warn.classDefReducibility false in
/-- Its remainder loop, which has no trip. -/
@[sl_loop] def loopInv4 (v70 : FVec F S256x1024 .f32) (v75 : Vec F S256x1024 .f32) (init : FVec F S8x1024 .f32) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 arg12 harg12 arg2 v1 v3 v12 v53 v58 v70 v75 v96 init where
  inv k acc := iprop(⌜acc = init⌝)
  step k acc := (Nat.not_lt_zero _ (Nat.lt_of_lt_of_eq k.isLt (trips4 i))).elim

end Second

/-! ## The loop of weighted values -/

section Third

variable (v108 v109 : FVec F S1x1024 .f32) (X8 : BufTy.Contents (Elt F) arg8.view.ty)
  (G10 : BufTy.Contents (Elt F) arg10.view.ty) (G12 : BufTy.Contents (Elt F) arg12.view.ty)

/-- What the trips before `k` have stored in the accumulator, the last first. -/
def acc5 : ℕ → List (View.Piece (Elt F) S128x1024 .f32)
  | 0 => []
  | k + 1 => if h : k < (k0_t5_loop i).trips then
      ⟨Rect.unit (s := S128x1024) ![0, 0] S128x1024.size inb_S128x1024_S128x1024_0_0,
          k0_pay31 v108 v109
            (arg10.view.readAt (Elt F) (Rect.unit (s := S4352x1024) (k0_off12 i ⟨k, h⟩) S256x1024.size (k0_off12_inb i ⟨k, h⟩)).toLoadRect G10)
            (arg8.view.readAt (Elt F) (Rect.unit (s := S1x8192x128) (k0_off13 i ⟨k, h⟩) S1x256x128.size (k0_off13_inb i ⟨k, h⟩)).toLoadRect X8)
            (arg12.view.readAt (Elt F) (Rect.unit (s := S128x1024) ![0, 0] S128x1024.size inb_S128x1024_S128x1024_0_0).toLoadRect (arg12.view.writes (Elt F) G12 (acc5 k)))⟩
        :: acc5 k
    else acc5 k

theorem acc5_succ (k : Fin (k0_t5_loop i).trips) :
    acc5 i arg8 arg10 arg12 v108 v109 X8 G10 G12 (k.val + 1) =
        ⟨Rect.unit (s := S128x1024) ![0, 0] S128x1024.size inb_S128x1024_S128x1024_0_0,
          k0_pay31 v108 v109
            (arg10.view.readAt (Elt F) (Rect.unit (s := S4352x1024) (k0_off12 i k) S256x1024.size (k0_off12_inb i k)).toLoadRect G10)
            (arg8.view.readAt (Elt F) (Rect.unit (s := S1x8192x128) (k0_off13 i k) S1x256x128.size (k0_off13_inb i k)).toLoadRect X8)
            (arg12.view.readAt (Elt F) (Rect.unit (s := S128x1024) ![0, 0] S128x1024.size inb_S128x1024_S128x1024_0_0).toLoadRect
              (arg12.view.writes (Elt F) G12 (acc5 i arg8 arg10 arg12 v108 v109 X8 G10 G12 k.val)))⟩
          :: acc5 i arg8 arg10 arg12 v108 v109 X8 G10 G12 k.val := by
  rw [acc5, dif_pos k.isLt]

set_option warn.classDefReducibility false in
/-- The third loop by its invariant. -/
@[sl_loop] def loopInv5 (init : BitVec 32) :
    LoopInvTy_k0_t5 (F := F) Unit ℕ (UR sig nD τ) ℕ 𝒱 c bd E i arg3 harg3 arg4 harg4 arg5 harg5 arg6 harg6 arg7 harg7 arg8 harg8 arg9 harg9 arg10 harg10 arg11 harg11 arg12 harg12 arg1 v1 v3 v108 v109 init where
  inv k _ := iprop((arg8.view.loc (c : Thread nD τ) ↦[arg8.view.set]{fullShare} X8)
      ∗ (arg10.view.loc (c : Thread nD τ) ↦[arg10.view.set]{fullShare} G10)
      ∗ (∃ f, (arg12.view.loc (c : Thread nD τ) ↦[arg12.view.set]{fullShare} f) ∗ ⌜f = arg12.view.writes (Elt F) G12 (acc5 i arg8 arg10 arg12 v108 v109 X8 G10 G12 k)⌝))
  step k acc := by
    iintro ⟨H8, H10, ⟨%f12, H12, %h12⟩⟩
    subst h12
    unfold k0_t5_body
    sl_exec
    sl_step
    rw [acc5_succ]
    isplitl [H8]; · iexact H8
    isplitl [H10]; · iexact H10
    iexists _; isplitl [H12]; · iexact H12
    ipureintro; rfl

set_option warn.classDefReducibility false in
/-- Its remainder loop, which has no trip. -/
@[sl_loop] def loopInv6 (init : BitVec 32) :
    LoopInvTy_k0_t6 (F := F) Unit ℕ (UR sig nD τ) ℕ 𝒱 c bd E i arg3 harg3 arg4 harg4 arg5 harg5 arg6 harg6 arg7 harg7 arg8 harg8 arg9 harg9 arg10 harg10 arg11 harg11 arg12 harg12 arg1 v1 v3 v108 v109 init where
  inv k _ := iprop(⌜True⌝)
  step k acc := (Nat.not_lt_zero _ (Nat.lt_of_lt_of_eq k.isLt (trips6 i))).elim

end Third

end Args

end Cert.Kernel.Hand
-- ==== Proof.P.Model.lean ====
module

public import proofs.«01_k».proof.Proof.P.Loops

/-!
What one grid point computes, as plain recursions over the chunks of keys: the logits of each slot, the column
maximum, the exponentials, their sum, and the accumulator. And that the three loops leave just that in memory.
-/

@[expose] public section

noncomputable section

namespace Cert.Kernel.Hand

open Cert.Kernel Cert.Kernel.Gen
open Idealize.ShloMosaic

variable {F : FTy → Type} [FloatOps F]

section Model

variable (v12 : FVec F S1024x128 .fp8e4m3) (v53 : FVec F S1x1024 .f32) (v58 : IVec S256x1024 32)
  (v70 : FVec F S256x1024 .f32) (key val : ℕ → Vec F S1x256x128 .fp8e4m3) (b : ℕ)

/-- The logits of slot `j` for query block `b`: the last slot is `v70`, masked by the diagonal; where the block has
    16 chunks before it the first slot is masked by the window; the others have no mask. -/
def lgt (j : ℕ) : FVec F S256x1024 .f32 :=
  if j = cnt b - 1 then k0_pay8 v70
  else if 16 ≤ b ∧ j = 0 then k0_pay11 v12 v53 v58 (key (lo b))
  else k0_pay14 v12 v53 (key (lo b + j))

/-- The running column maximum before the first loop. -/
def maxInit : FVec F S8x1024 .f32 :=
  if 16 ≤ b then k0_pay12 v12 v53 v58 (key (lo b)) (k0_pay9 v70) else k0_pay9 v70

/-- The running column maximum after `k` trips of the first loop. -/
def maxTo : ℕ → FVec F S8x1024 .f32
  | 0 => maxInit v12 v53 v58 v70 key b
  | k + 1 => k0_pay15 v12 v53 (key (lo b + (fst b + k))) (maxTo k)

/-- The column maximum. -/
def colmax : FVec F S8x1024 .f32 := maxTo v12 v53 v58 v70 key b (cnt b - 1 - fst b)

/-- The exponentials of slot `j`. -/
def expo (j : ℕ) : FVec F S256x1024 .f32 :=
  k0_pay22 (colmax v12 v53 v58 v70 key b) (lgt v12 v53 v58 v70 key b j)

/-- The running sum of exponentials over the first `k` slots. -/
def sumTo : ℕ → FVec F S8x1024 .f32
  | 0 => k0_pay20
  | k + 1 => k0_pay23 (colmax v12 v53 v58 v70 key b) (sumTo k) (lgt v12 v53 v58 v70 key b k)

/-- The sum of exponentials per column. -/
def total : FVec F S1x1024 .f32 := k0_pay27 (sumTo v12 v53 v58 v70 key b (cnt b))

/-- The accumulator over the first `k` slots. -/
def accTo : ℕ → FVec F S128x1024 .f32
  | 0 => k0_pay30
  | k + 1 => k0_pay31 (total v12 v53 v58 v70 key b) k0_pay28 (expo v12 v53 v58 v70 key b k) (val (lo b + k)) (accTo k)

end Model

/-- The whole of the scratch of the running maximum. -/
abbrev readMax (M : Memref sig .tc .vmem S8x1024 .f32) (f : BufTy.Contents (Elt F) M.view.ty) : Vec F S8x1024 .f32 :=
  M.view.readAt (Elt F) (Rect.unit (s := S8x1024) ![0, 0] S8x1024.size inb_S8x1024_S8x1024_0_0).toLoadRect f

/-- The whole of the accumulator. -/
abbrev readAcc (M : Memref sig .tc .vmem S128x1024 .f32) (f : BufTy.Contents (Elt F) M.view.ty) : Vec F S128x1024 .f32 :=
  M.view.readAt (Elt F) (Rect.unit (s := S128x1024) ![0, 0] S128x1024.size inb_S128x1024_S128x1024_0_0).toLoadRect f

/-- The four head groups of a query block, stacked. -/
def queries (M : Memref sig .tc .vmem S1x256x512 .fp8e4m3) (f : BufTy.Contents (Elt F) M.view.ty) : FVec F S1024x128 .fp8e4m3 :=
  k0_pay2
    (M.view.readAt (Elt F) (Rect.unit (s := S1x256x512) ![0, 0, 0] S1x256x128.size inb_S1x256x512_S1x256x128_0_0_0).toLoadRect f)
    (M.view.readAt (Elt F) (Rect.unit (s := S1x256x512) ![0, 0, 128] S1x256x128.size inb_S1x256x512_S1x256x128_0_0_128).toLoadRect f)
    (M.view.readAt (Elt F) (Rect.unit (s := S1x256x512) ![0, 0, 256] S1x256x128.size inb_S1x256x512_S1x256x128_0_0_256).toLoadRect f)
    (M.view.readAt (Elt F) (Rect.unit (s := S1x256x512) ![0, 0, 384] S1x256x128.size inb_S1x256x512_S1x256x128_0_0_384).toLoadRect f)

section Point

variable (q : FVec F S1024x128 .fp8e4m3) (qs ks : ℕ → Elt F .f32) (h b : ℕ) (key val : ℕ → Vec F S1x256x128 .fp8e4m3)

/-- The scale of each column of the logits, for key-value head `h`. -/
def colScale : FVec F S1x1024 .f32 :=
  k0_pay5 (k0_pay3 (qs (h * 4 + 0)) (ks h)) (k0_pay4 (qs (h * 4 + 1)) (ks h)) (qs (h * 4 + 2)) (ks h) (qs (h * 4 + 3)) (ks h)

/-- The logits of the diagonal chunk. -/
def diag : FVec F S256x1024 .f32 :=
  k0_pay7 q (k0_pay3 (qs (h * 4 + 0)) (ks h)) (k0_pay4 (qs (h * 4 + 1)) (ks h)) (qs (h * 4 + 2)) (ks h) (qs (h * 4 + 3)) (ks h) (key b)

/-- The accumulator at the end. -/
def acc : FVec F S128x1024 .f32 :=
  accTo q (colScale qs ks h) k0_pay6 (diag q qs ks h b key) key val b (cnt b)

end Point

section Reads

variable (i : grid0.Coords)
  (arg7 : Memref sig .tc .vmem S1x8192x128 .fp8e4m3) (arg8 : Memref sig .tc .vmem S1x8192x128 .fp8e4m3)
  (arg10 : Memref sig .tc .vmem S4352x1024 .f32) (arg11 : Memref sig .tc .vmem S8x1024 .f32)
  (arg12 : Memref sig .tc .vmem S128x1024 .f32)
  (v12 : FVec F S1024x128 .fp8e4m3) (v53 : FVec F S1x1024 .f32) (v58 : IVec S256x1024 32)
  (v70 : FVec F S256x1024 .f32)
  (X7 : BufTy.Contents (Elt F) arg7.view.ty) (X8 : BufTy.Contents (Elt F) arg8.view.ty)

theorem key1_eq (k : Fin (k0_t1_loop i).trips) :
    key1 i arg7 X7 k = chunk arg7 X7 (lo (i 2).val + (fst (i 2).val + k.val)) := by
  have hk : k.val < cnt (i 2).val - 1 - fst (i 2).val := by
    rw [← trips1]
    exact k.isLt
  exact load_chunk arg7 X7 _ _ (lo_add _ _ (blk_lt i) (by omega)) (off6_eq i k)

/-- The slots after `k` trips of the first loop. -/
theorem slot_logits1 (G : BufTy.Contents (Elt F) arg10.view.ty) (k : ℕ) (hk : k ≤ (k0_t1_loop i).trips) (j : ℕ) (hj : j ≤ 16) :
    slot arg10 (arg10.view.writes (Elt F) G (logits1 i arg7 v12 v53 X7 k)) j
      = if fst (i 2).val ≤ j ∧ j < fst (i 2).val + k then k0_pay14 v12 v53 (chunk arg7 X7 (lo (i 2).val + j))
        else slot arg10 G j := by
  induction k with
  | zero =>
    rw [if_neg (by omega)]
    rfl
  | succ k ih =>
    have hlt := hk
    have hc := cnt_le (i 2).val
    rw [trips1] at hlt
    have e := logits1_succ i arg7 v12 v53 X7 ⟨k, hk⟩
    simp only at e
    rw [e]
    by_cases h : j = fst (i 2).val + k
    · rw [if_pos (by omega), key1_eq, slot_write_same arg10 G _ _ _ j hj (by rw [off7_eq i ⟨k, hk⟩, h]), h]
    · rw [slot_write_other arg10 G _ _ _ (fst (i 2).val + k) j hj (off7_eq i ⟨k, hk⟩) h, ih (by omega)]
      congr 1
      simp only [eq_iff_iff]
      omega

/-- The running maximum after `k` trips of the first loop. -/
theorem readMax_colmax1 (G : BufTy.Contents (Elt F) arg11.view.ty)
    (hG : readMax arg11 G = maxInit v12 v53 v58 v70 (chunk arg7 X7) (i 2).val) (k : ℕ) (hk : k ≤ (k0_t1_loop i).trips) :
    readMax arg11 (arg11.view.writes (Elt F) G (colmax1 i arg7 arg11 v12 v53 X7 G k))
      = maxTo v12 v53 v58 v70 (chunk arg7 X7) (i 2).val k := by
  induction k with
  | zero => exact hG
  | succ k ih =>
    have e := colmax1_succ i arg7 arg11 v12 v53 X7 G ⟨k, hk⟩
    simp only at e
    rw [e]
    unfold readMax
    rw [View.readAt_writes_full]
    have := ih (by omega)
    unfold readMax at this
    rw [this, key1_eq]
    rfl

/-- The slots after `k` trips of the second loop. -/
theorem slot_exps3 (v96 : Vec F S8x1024 .f32) (G : BufTy.Contents (Elt F) arg10.view.ty) (k : ℕ)
    (hk : k ≤ (k0_t3_loop i).trips) (j : ℕ) (hj : j ≤ 16) :
    slot arg10 (arg10.view.writes (Elt F) G (exps3 i arg10 v96 G k)) j
      = if j < k then k0_pay22 v96 (slot arg10 G j) else slot arg10 G j := by
  induction k generalizing j with
  | zero =>
    rw [if_neg (by omega)]
    rfl
  | succ k ih =>
    have hlt := hk
    have hc := cnt_le (i 2).val
    rw [trips3] at hlt
    have e := exps3_succ i arg10 v96 G ⟨k, hk⟩
    simp only at e
    rw [e]
    by_cases h : j = k
    · subst h
      rw [if_pos (by omega), slot_write_same arg10 G _ _ _ j hj (by rw [off10_eq]),
        load_slot arg10 _ _ j hj (by rw [off10_eq]), ih (by omega) j hj, if_neg (by omega)]
    · rw [slot_write_other arg10 G _ _ _ k j hj (off10_eq i ⟨k, hk⟩) h, ih (by omega) j hj]
      congr 1
      simp only [eq_iff_iff]
      omega

/-- The running sum after `k` trips of the second loop, where the slots held the logits before it. -/
theorem sum3_eq (key : ℕ → Vec F S1x256x128 .fp8e4m3) (G : BufTy.Contents (Elt F) arg10.view.ty)
    (hG : ∀ j, j < cnt (i 2).val → slot arg10 G j = lgt v12 v53 v58 v70 key (i 2).val j)
    (k : ℕ) (hk : k ≤ (k0_t3_loop i).trips) :
    sum3 i arg10 (colmax v12 v53 v58 v70 key (i 2).val) G k0_pay20 k = sumTo v12 v53 v58 v70 key (i 2).val k := by
  induction k with
  | zero => rfl
  | succ k ih =>
    have hlt := hk
    have hc := cnt_le (i 2).val
    rw [trips3] at hlt
    have e := sum3_succ i arg10 (colmax v12 v53 v58 v70 key (i 2).val) G k0_pay20 ⟨k, hk⟩
    simp only at e
    rw [e, ih (by omega), load_slot arg10 _ _ k (by omega) (by rw [off10_eq]), slot_exps3 _ _ _ _ _ (by omega) _ (by omega),
      if_neg (by omega), hG k (by omega)]
    rfl

/-- The accumulator after `k` trips of the third loop, where the slots held the exponentials before it. -/
theorem readAcc_acc5 (key : ℕ → Vec F S1x256x128 .fp8e4m3) (G10 : BufTy.Contents (Elt F) arg10.view.ty)
    (hG10 : ∀ j, j < cnt (i 2).val → slot arg10 G10 j = expo v12 v53 v58 v70 key (i 2).val j)
    (G : BufTy.Contents (Elt F) arg12.view.ty) (hG : readAcc arg12 G = k0_pay30)
    (k : ℕ) (hk : k ≤ (k0_t5_loop i).trips) :
    readAcc arg12 (arg12.view.writes (Elt F) G (acc5 i arg8 arg10 arg12 (total v12 v53 v58 v70 key (i 2).val) k0_pay28 X8 G10 G k))
      = accTo v12 v53 v58 v70 key (chunk arg8 X8) (i 2).val k := by
  induction k with
  | zero => exact hG
  | succ k ih =>
    have hlt := hk
    have hc := cnt_le (i 2).val
    rw [trips5] at hlt
    have e := acc5_succ i arg8 arg10 arg12 (total v12 v53 v58 v70 key (i 2).val) k0_pay28 X8 G10 G ⟨k, hk⟩
    simp only at e
    rw [e]
    have := ih (by omega)
    unfold readAcc at this ⊢
    rw [View.readAt_writes_full, this, load_slot arg10 _ _ k (by omega) (by rw [off12_eq]), hG10 k (by omega),
      load_chunk arg8 X8 _ (lo (i 2).val + k) (lo_add _ _ (blk_lt i) (by omega)) (by rw [off13_eq])]
    rfl

/-- The slots hold the logits after the first loop, -/
theorem slot_after1 (f10 : BufTy.Contents (Elt F) arg10.view.ty) (L : List (View.Piece (Elt F) S4352x1024 .f32))
    (hfirst : 16 ≤ (i 2).val → slot arg10 (arg10.view.writes (Elt F) f10 L) 0 = k0_pay11 v12 v53 v58 (chunk arg7 X7 (lo (i 2).val)))
    (hlast : slot arg10 (arg10.view.writes (Elt F) f10 L) (cnt (i 2).val - 1) = k0_pay8 v70) (j : ℕ) (hj : j < cnt (i 2).val) :
    slot arg10 (arg10.view.writes (Elt F) f10 (logits1 i arg7 v12 v53 X7 (k0_t1_loop i).trips ++ L)) j
      = lgt v12 v53 v58 v70 (chunk arg7 X7) (i 2).val j := by
  have hc := cnt_le (i 2).val
  have hf := fst_le (i 2).val
  rw [View.writes_append, slot_logits1 i arg7 arg10 v12 v53 X7 _ _ le_rfl j (by omega), trips1]
  unfold lgt
  by_cases h1 : j = cnt (i 2).val - 1
  · rw [if_neg (by omega), if_pos h1, h1, hlast]
  · rw [if_neg h1]
    by_cases h2 : 16 ≤ (i 2).val ∧ j = 0
    · rw [if_pos h2, if_neg (by unfold fst; rw [if_pos h2.1]; omega), h2.2, hfirst h2.1]
    · rw [if_neg h2, if_pos]
      unfold fst
      split <;> omega

/-- and the scratch of the running maximum holds the maximum; -/
theorem max_after1 (L : List (View.Piece (Elt F) S8x1024 .f32))
    (hL : readMax arg11 (arg11.view.writes (Elt F) arg11.view.junk L) = maxInit v12 v53 v58 v70 (chunk arg7 X7) (i 2).val) :
    readMax arg11 (arg11.view.writes (Elt F) arg11.view.junk
        (colmax1 i arg7 arg11 v12 v53 X7 (arg11.view.writes (Elt F) arg11.view.junk L) (k0_t1_loop i).trips ++ L))
      = colmax v12 v53 v58 v70 (chunk arg7 X7) (i 2).val := by
  rw [View.writes_append, readMax_colmax1 i arg7 arg11 v12 v53 v58 v70 X7 _ hL _ le_rfl, trips1]
  rfl

/-- after the second loop the slots hold the exponentials. -/
theorem slot_after3 (v96 : Vec F S8x1024 .f32) (hv : v96 = colmax v12 v53 v58 v70 (chunk arg7 X7) (i 2).val)
    (f10 : BufTy.Contents (Elt F) arg10.view.ty) (L : List (View.Piece (Elt F) S4352x1024 .f32))
    (hL : ∀ j, j < cnt (i 2).val → slot arg10 (arg10.view.writes (Elt F) f10 L) j
      = lgt v12 v53 v58 v70 (chunk arg7 X7) (i 2).val j) (j : ℕ) (hj : j < cnt (i 2).val) :
    slot arg10 (arg10.view.writes (Elt F) f10 (exps3 i arg10 v96 (arg10.view.writes (Elt F) f10 L) (k0_t3_loop i).trips ++ L)) j
      = expo v12 v53 v58 v70 (chunk arg7 X7) (i 2).val j := by
  have hc := cnt_le (i 2).val
  rw [View.writes_append, slot_exps3 i arg10 _ _ _ le_rfl j (by omega), if_pos (by rw [trips3]; exact hj), hL j hj, hv]
  rfl

/-- And the sum of the second loop is the total. -/
theorem total_after3 (v96 : Vec F S8x1024 .f32) (hv : v96 = colmax v12 v53 v58 v70 (chunk arg7 X7) (i 2).val)
    (G : BufTy.Contents (Elt F) arg10.view.ty)
    (hG : ∀ j, j < cnt (i 2).val → slot arg10 G j = lgt v12 v53 v58 v70 (chunk arg7 X7) (i 2).val j) :
    k0_pay27 (sum3 i arg10 v96 G k0_pay20 (k0_t3_loop i).trips) = total v12 v53 v58 v70 (chunk arg7 X7) (i 2).val := by
  rw [hv, sum3_eq i arg10 v12 v53 v58 v70 _ G hG _ le_rfl, trips3]
  rfl

/-- The accumulator after the third loop. -/
theorem acc_after5 (key : ℕ → Vec F S1x256x128 .fp8e4m3) (G10 : BufTy.Contents (Elt F) arg10.view.ty)
    (hG10 : ∀ j, j < cnt (i 2).val → slot arg10 G10 j = expo v12 v53 v58 v70 key (i 2).val j)
    (L : List (View.Piece (Elt F) S128x1024 .f32)) (hL : readAcc arg12 (arg12.view.writes (Elt F) arg12.view.junk L) = k0_pay30) :
    readAcc arg12 (arg12.view.writes (Elt F) arg12.view.junk
        (acc5 i arg8 arg10 arg12 (total v12 v53 v58 v70 key (i 2).val) k0_pay28 X8 G10 (arg12.view.writes (Elt F) arg12.view.junk L)
          (k0_t5_loop i).trips ++ L))
      = accTo v12 v53 v58 v70 key (chunk arg8 X8) (i 2).val (cnt (i 2).val) := by
  rw [View.writes_append, readAcc_acc5 i arg8 arg10 arg12 v12 v53 v58 v70 X8 key G10 hG10 _ hL _ le_rfl, trips5]

end Reads

end Cert.Kernel.Hand
-- ==== Proof.P.Body.lean ====
module

public import proofs.«01_k».proof.Proof.P.Model

/-!
The body of the kernel, run part by part: the reads and the straight code before the loops, the loops by their
invariants, and the four stores of the output.
-/

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (𝒱 : Variants) (c : Dev nD) (bd : Option 𝒱.V) (E : Set ℕ) (i : grid0.Coords)
  (arg3 : Memref sig .tc .smem S8 .f32) (harg3 : arg3.IsWhole) (arg4 : Memref sig .tc .smem S2 .f32)
  (harg4 : arg4.IsWhole) (arg5 : Memref sig .tc .smem S2 .f32) (harg5 : arg5.IsWhole)
  (arg6 : Memref sig .tc .vmem S1x256x512 .fp8e4m3) (harg6 : arg6.IsWhole)
  (arg7 : Memref sig .tc .vmem S1x8192x128 .fp8e4m3) (harg7 : arg7.IsWhole)
  (arg8 : Memref sig .tc .vmem S1x8192x128 .fp8e4m3) (harg8 : arg8.IsWhole)
  (arg9 : Memref sig .tc .vmem S1x256x512 .bf16) (harg9 : arg9.IsWhole)
  (arg10 : Memref sig .tc .vmem S4352x1024 .f32) (harg10 : arg10.IsWhole)
  (arg11 : Memref sig .tc .vmem S8x1024 .f32) (harg11 : arg11.IsWhole)
  (arg12 : Memref sig .tc .vmem S128x1024 .f32) (harg12 : arg12.IsWhole)

/-- The first part returns the stacked queries and the scales of the first two head groups. -/
theorem part1_run (X3 : BufTy.Contents (Elt F) arg3.view.ty) (X4 : BufTy.Contents (Elt F) arg4.view.ty)
    (X6 : BufTy.Contents (Elt F) arg6.view.ty) :
    (iprop((arg3.view.loc (c : Thread nD τ) ↦[arg3.view.set]{fullShare} X3)
      ∗ (arg4.view.loc (c : Thread nD τ) ↦[arg4.view.set]{fullShare} X4)
      ∗ (arg6.view.loc (c : Thread nD τ) ↦[arg6.view.set]{fullShare} X6)) : sProp 𝕄)
    ⊢ wp frame (wpE (defs₀ (F := F)) 𝒱 (c : Thread nD τ) bd) E (k0_part1 (F := F) i arg3 harg3 arg4 harg4 arg5 harg5 arg6 harg6 arg7 harg7 arg8 harg8 arg9 harg9 arg10 harg10 arg11 harg11 arg12 harg12)
      (fun r => iprop((arg3.view.loc (c : Thread nD τ) ↦[arg3.view.set]{fullShare} X3)
        ∗ (arg4.view.loc (c : Thread nD τ) ↦[arg4.view.set]{fullShare} X4)
        ∗ (arg6.view.loc (c : Thread nD τ) ↦[arg6.view.set]{fullShare} X6)
        ∗ ⌜r.2.2.2.2.1 = queries arg6 X6⌝
        ∗ ⌜r.2.2.2.2.2.1 = k0_pay3 (scal8 arg3 X3 ((i 1).val * 4 + 0)) (scal2 arg4 X4 (i 1).val)⌝
        ∗ ⌜r.2.2.2.2.2.2.1 = k0_pay4 (scal8 arg3 X3 ((i 1).val * 4 + 1)) (scal2 arg4 X4 (i 1).val)⌝)) := by
  have h2 : (i 1).val < 2 := (i 1).isLt
  iintro ⟨H3, H4, H6⟩
  rw [k0_part1_eq_skeleton]
  unfold k0_part1_skel
  sl_exec
  unfold part1_run.sl.r part1_run.sl.r_1 part1_run.sl.r_2
  rw [load_scal8 arg3 X3 (off := k0_off1 i 0#32) _ ((i 1).val * 4 + 0) (by omega) (off1_eq i 0), load_scal8 arg3 X3 (off := k0_off1 i 1#32) _ ((i 1).val * 4 + 1) (by omega) (off1_eq i 1),
    load_scal2 arg4 X4 _ (i 1).val (by omega) (off2_eq i)]
  sl_step
  isplitl [H3]
  · iexact H3
  isplitl [H4]
  · iexact H4
  isplitl [H6]
  · iexact H6
  isplitr
  · ipureintro
    rfl
  isplitr
  · ipureintro
    rfl
  · ipureintro
    rfl

/-- The second part returns the column scales, the relative positions and the logits of the diagonal chunk. -/
theorem part2_run (arg1 arg2 v3 c4 : BitVec 32) (v12 : FVec F S1024x128 .fp8e4m3) (v22 v32 : FVec F S1x256 .f32)
    (X3 : BufTy.Contents (Elt F) arg3.view.ty) (X4 : BufTy.Contents (Elt F) arg4.view.ty)
    (X7 : BufTy.Contents (Elt F) arg7.view.ty) (f10 : BufTy.Contents (Elt F) arg10.view.ty)
    (e22 : v22 = k0_pay3 (scal8 arg3 X3 ((i 1).val * 4 + 0)) (scal2 arg4 X4 (i 1).val))
    (e32 : v32 = k0_pay4 (scal8 arg3 X3 ((i 1).val * 4 + 1)) (scal2 arg4 X4 (i 1).val)) :
    (iprop((arg3.view.loc (c : Thread nD τ) ↦[arg3.view.set]{fullShare} X3)
      ∗ (arg4.view.loc (c : Thread nD τ) ↦[arg4.view.set]{fullShare} X4)
      ∗ (arg7.view.loc (c : Thread nD τ) ↦[arg7.view.set]{fullShare} X7)
      ∗ (arg10.view.loc (c : Thread nD τ) ↦[arg10.view.set]{fullShare} f10)) : sProp 𝕄)
    ⊢ wp frame (wpE (defs₀ (F := F)) 𝒱 (c : Thread nD τ) bd) E (k0_part2 (F := F) i arg3 harg3 arg4 harg4 arg5 harg5 arg6 harg6 arg7 harg7 arg8 harg8 arg9 harg9 arg10 harg10 arg11 harg11 arg12 harg12 arg1 arg2 v3 v12 v22 v32 c4)
      (fun r => iprop((arg3.view.loc (c : Thread nD τ) ↦[arg3.view.set]{fullShare} X3)
        ∗ (arg4.view.loc (c : Thread nD τ) ↦[arg4.view.set]{fullShare} X4)
        ∗ (arg7.view.loc (c : Thread nD τ) ↦[arg7.view.set]{fullShare} X7)
        ∗ (arg10.view.loc (c : Thread nD τ) ↦[arg10.view.set]{fullShare} f10)
        ∗ ⌜r.1 = colScale (scal8 arg3 X3) (scal2 arg4 X4) (i 1).val⌝
        ∗ ⌜r.2.1 = k0_pay6⌝
        ∗ ⌜r.2.2.1 = diag v12 (scal8 arg3 X3) (scal2 arg4 X4) (i 1).val (i 2).val (chunk arg7 X7)⌝)) := by
  have h2 : (i 1).val < 2 := (i 1).isLt
  have hb := blk_lt i
  iintro ⟨H3, H4, H7, H10⟩
  rw [k0_part2_eq_skeleton]
  unfold k0_part2_skel
  sl_exec
  unfold part2_run.sl.r part2_run.sl.r_1 part2_run.sl.r_2
  rw [load_scal8 arg3 X3 (off := k0_off1 i 2#32) _ ((i 1).val * 4 + 2) (by omega) (off1_eq i 2), load_scal8 arg3 X3 (off := k0_off1 i 3#32) _ ((i 1).val * 4 + 3) (by omega) (off1_eq i 3),
    load_scal2 arg4 X4 _ (i 1).val (by omega) (off2_eq i), load_chunk arg7 X7 _ (i 2).val (by omega) (off3_eq i), e22, e32]
  sl_step
  isplitl [H3]
  · iexact H3
  isplitl [H4]
  · iexact H4
  isplitl [H7]
  · iexact H7
  isplitl [H10]
  · iexact H10
  isplitr
  · ipureintro
    rfl
  isplitr
  · ipureintro
    rfl
  · ipureintro
    rfl

/-- The third part leaves the exponentials in the slots, and returns their sum per column. -/
theorem part3_run (arg2 v1 v3 : BitVec 32)
  (v12 : FVec F S1024x128 .fp8e4m3) (v53 : FVec F S1x1024 .f32) (v58 : IVec S256x1024 32)
  (v70 : FVec F S256x1024 .f32) (v75 : Vec F S256x1024 .f32) (X7 : BufTy.Contents (Elt F) arg7.view.ty)
    (f10 : BufTy.Contents (Elt F) arg10.view.ty) (f11 : BufTy.Contents (Elt F) arg11.view.ty) :
    (iprop((arg7.view.loc (c : Thread nD τ) ↦[arg7.view.set]{fullShare} X7)
      ∗ (arg10.view.loc (c : Thread nD τ) ↦[arg10.view.set]{fullShare} f10)
      ∗ (arg11.view.loc (c : Thread nD τ) ↦[arg11.view.set]{fullShare} f11)) : sProp 𝕄)
    ⊢ wp frame (wpE (defs₀ (F := F)) 𝒱 (c : Thread nD τ) bd) E (k0_part3 (F := F) i arg3 harg3 arg4 harg4 arg5 harg5 arg6 harg6 arg7 harg7 arg8 harg8 arg9 harg9 arg10 harg10 arg11 harg11 arg12 harg12 arg2 v1 v3 v12 v53 v58 v70 v75)
      (fun r => iprop((arg7.view.loc (c : Thread nD τ) ↦[arg7.view.set]{fullShare} X7)
        ∗ (∃ g, (arg10.view.loc (c : Thread nD τ) ↦[arg10.view.set]{fullShare} g)
            ∗ ⌜∀ j, j < cnt (i 2).val → slot arg10 g j = expo v12 v53 v58 v70 (chunk arg7 X7) (i 2).val j⌝)
        ∗ (∃ g, arg11.view.loc (c : Thread nD τ) ↦[arg11.view.set]{fullShare} g)
        ∗ ⌜r.1 = total v12 v53 v58 v70 (chunk arg7 X7) (i 2).val⌝
        ∗ ⌜r.2 = k0_pay28⌝)) := by
  have hb := blk_lt i
  by_cases h1 : k0_cond1 i = 1#1
  · have h16 := (cond1_iff i).1 h1
    have e4 : k0_off4 i = ![4096, 0] := by
      rw [off4_eq]; unfold cnt; congr 1; omega
    letI : ClosedOff (k0_off4 i) := ⟨![4096, 0], e4⟩
    iintro ⟨H7, H10, H11⟩
    rw [k0_part3_eq_skeleton]
    unfold k0_part3_skel
    sl_exec
    have hL := slot_after1 i arg7 arg10 v12 v53 v58 v70 X7 f10
      [⟨Rect.unit (s := S4352x1024) ![0, 0] S256x1024.size inb_S4352x1024_S256x1024_0_0,
          k0_pay11 v12 v53 v58 (arg7.view.readAt (Elt F) (Rect.unit (s := S1x8192x128) (k0_off5 i) S1x256x128.size (k0_off5_inb i h1)).toLoadRect X7)⟩,
        ⟨Rect.unit (s := S4352x1024) (k0_off4 i) S256x1024.size (k0_off4_inb i), k0_pay8 v70⟩]
      (fun _ => by
        rw [slot_write_same arg10 f10 _ _ _ 0 (by omega) rfl, load_chunk arg7 X7 _ (lo (i 2).val) (by unfold lo; omega) (off5_eq i)])
      (by
        rw [slot_write_other arg10 f10 _ _ _ 0 _ (by have := cnt_le (i 2).val; omega) rfl (by unfold cnt; omega),
          slot_write_same arg10 f10 _ _ _ _ (by have := cnt_le (i 2).val; omega) (off4_eq i)])
    have hM := max_after1 i arg7 arg11 v12 v53 v58 v70 X7
      [⟨Rect.unit (s := S8x1024) ![0, 0] S8x1024.size inb_S8x1024_S8x1024_0_0,
          k0_pay12 v12 v53 v58 (arg7.view.readAt (Elt F) (Rect.unit (s := S1x8192x128) (k0_off5 i) S1x256x128.size (k0_off5_inb i h1)).toLoadRect X7)
            (k0_pay9 v70)⟩, ⟨Rect.unit (s := S8x1024) ![0, 0] S8x1024.size inb_S8x1024_S8x1024_0_0, k0_pay9 v70⟩]
      (by
        unfold readMax
        rw [View.readAt_writes_full, load_chunk arg7 X7 _ (lo (i 2).val) (by unfold lo; omega) (off5_eq i)]
        unfold maxInit
        rw [if_pos h16])
    have h167 : part3_run.sl.v167 arg11 v70 = k0_pay9 v70 := by
      unfold part3_run.sl.v167 part3_run.sl.H11_1 View.readCov
      exact View.readAt_writes_full ..
    unfold part3_run.sl.v96 part3_run.sl.H11_2 part3_run.sl.H11_1
    rw [h167]
    sl_step
    isplitl [H7]
    · iexact H7
    isplitl [H10]
    · iexists _
      isplitl [H10]
      · iexact H10
      · ipureintro
        exact slot_after3 i arg7 arg10 v12 v53 v58 v70 X7 _ hM f10 _ hL
    isplitl [H11]
    · iexists _
      iexact H11
    isplitr
    · ipureintro
      exact total_after3 i arg7 arg10 v12 v53 v58 v70 X7 _ hM _ hL
    · ipureintro
      rfl
  · have h16 : ¬ 16 ≤ (i 2).val := fun h => h1 ((cond1_iff i).2 h)
    have e4 : k0_off4 i = ![(i 2).val * 256, 0] := by
      rw [off4_eq]; unfold cnt; congr 1; omega
    letI : ClosedOff (k0_off4 i) := ⟨![(i 2).val * 256, 0], e4⟩
    iintro ⟨H7, H10, H11⟩
    rw [k0_part3_eq_skeleton]
    unfold k0_part3_skel
    sl_exec
    have hL := slot_after1 i arg7 arg10 v12 v53 v58 v70 X7 f10
      [⟨Rect.unit (s := S4352x1024) (k0_off4 i) S256x1024.size (k0_off4_inb i), k0_pay8 v70⟩]
      (fun h => absurd h h16)
      (by rw [slot_write_same arg10 f10 _ _ _ _ (by have := cnt_le (i 2).val; omega) (off4_eq i)])
    have hM := max_after1 i arg7 arg11 v12 v53 v58 v70 X7
      [⟨Rect.unit (s := S8x1024) ![0, 0] S8x1024.size inb_S8x1024_S8x1024_0_0, k0_pay9 v70⟩]
      (by
        unfold readMax
        rw [View.readAt_writes_full]
        unfold maxInit
        rw [if_neg h16])
    unfold part3_run.sl.v96_1 part3_run.sl.H11_1_1
    sl_step
    isplitl [H7]
    · iexact H7
    isplitl [H10]
    · iexists _
      isplitl [H10]
      · iexact H10
      · ipureintro
        exact slot_after3 i arg7 arg10 v12 v53 v58 v70 X7 _ hM f10 _ hL
    isplitl [H11]
    · iexists _
      iexact H11
    isplitr
    · ipureintro
      exact total_after3 i arg7 arg10 v12 v53 v58 v70 X7 _ hM _ hL
    · ipureintro
      rfl

/-- The same over values known to be equal to its operands. -/
theorem part3_restated (arg2 v1 v3 : BitVec 32)
  (v12 : FVec F S1024x128 .fp8e4m3) (v53 : FVec F S1x1024 .f32) (v58 : IVec S256x1024 32)
  (v70 : FVec F S256x1024 .f32) (v75 : Vec F S256x1024 .f32) (X7 : BufTy.Contents (Elt F) arg7.view.ty)
    (f10 : BufTy.Contents (Elt F) arg10.view.ty) (f11 : BufTy.Contents (Elt F) arg11.view.ty)
    (w12 : FVec F S1024x128 .fp8e4m3) (w53 : FVec F S1x1024 .f32) (w58 : IVec S256x1024 32) (w70 : FVec F S256x1024 .f32)
    (e12 : v12 = w12) (e53 : v53 = w53) (e58 : v58 = w58) (e70 : v70 = w70) :
    (iprop((arg7.view.loc (c : Thread nD τ) ↦[arg7.view.set]{fullShare} X7)
      ∗ (arg10.view.loc (c : Thread nD τ) ↦[arg10.view.set]{fullShare} f10)
      ∗ (arg11.view.loc (c : Thread nD τ) ↦[arg11.view.set]{fullShare} f11)) : sProp 𝕄)
    ⊢ wp frame (wpE (defs₀ (F := F)) 𝒱 (c : Thread nD τ) bd) E (k0_part3 (F := F) i arg3 harg3 arg4 harg4 arg5 harg5 arg6 harg6 arg7 harg7 arg8 harg8 arg9 harg9 arg10 harg10 arg11 harg11 arg12 harg12 arg2 v1 v3 v12 v53 v58 v70 v75)
      (fun r => iprop((arg7.view.loc (c : Thread nD τ) ↦[arg7.view.set]{fullShare} X7)
        ∗ (∃ g, (arg10.view.loc (c : Thread nD τ) ↦[arg10.view.set]{fullShare} g)
            ∗ ⌜∀ j, j < cnt (i 2).val → slot arg10 g j = expo w12 w53 w58 w70 (chunk arg7 X7) (i 2).val j⌝)
        ∗ (∃ g, arg11.view.loc (c : Thread nD τ) ↦[arg11.view.set]{fullShare} g)
        ∗ ⌜r.1 = total w12 w53 w58 w70 (chunk arg7 X7) (i 2).val⌝
        ∗ ⌜r.2 = k0_pay28⌝)) := by
  subst e12 e53 e58 e70
  exact part3_run 𝒱 c bd E i arg3 harg3 arg4 harg4 arg5 harg5 arg6 harg6 arg7 harg7 arg8 harg8 arg9 harg9 arg10 harg10 arg11 harg11 arg12 harg12 arg2 v1 v3 v12 v53 v58 v70 v75 X7 f10 f11

/-- The fourth part leaves three head groups of the output and returns the scaled accumulator. -/
theorem part4_run (arg1 v1 v3 : BitVec 32) (v12 : FVec F S1024x128 .fp8e4m3) (v53 : FVec F S1x1024 .f32)
    (v58 : IVec S256x1024 32) (v70 : FVec F S256x1024 .f32) (key : ℕ → Vec F S1x256x128 .fp8e4m3) (v108 v109 : FVec F S1x1024 .f32)
    (X5 : BufTy.Contents (Elt F) arg5.view.ty) (X8 : BufTy.Contents (Elt F) arg8.view.ty) (f9 : BufTy.Contents (Elt F) arg9.view.ty)
    (f10 : BufTy.Contents (Elt F) arg10.view.ty) (f12 : BufTy.Contents (Elt F) arg12.view.ty)
    (e108 : v108 = total v12 v53 v58 v70 key (i 2).val) (e109 : v109 = k0_pay28)
    (hf10 : ∀ j, j < cnt (i 2).val → slot arg10 f10 j = expo v12 v53 v58 v70 key (i 2).val j) :
    (iprop((arg5.view.loc (c : Thread nD τ) ↦[arg5.view.set]{fullShare} X5)
      ∗ (arg8.view.loc (c : Thread nD τ) ↦[arg8.view.set]{fullShare} X8)
      ∗ (arg9.view.loc (c : Thread nD τ) ↦[arg9.view.set]{fullShare} f9)
      ∗ (arg10.view.loc (c : Thread nD τ) ↦[arg10.view.set]{fullShare} f10)
      ∗ (arg12.view.loc (c : Thread nD τ) ↦[arg12.view.set]{fullShare} f12)) : sProp 𝕄)
    ⊢ wp frame (wpE (defs₀ (F := F)) 𝒱 (c : Thread nD τ) bd) E (k0_part4 (F := F) i arg3 harg3 arg4 harg4 arg5 harg5 arg6 harg6 arg7 harg7 arg8 harg8 arg9 harg9 arg10 harg10 arg11 harg11 arg12 harg12 arg1 v1 v3 v108 v109)
      (fun r => iprop((arg5.view.loc (c : Thread nD τ) ↦[arg5.view.set]{fullShare} X5)
        ∗ (arg8.view.loc (c : Thread nD τ) ↦[arg8.view.set]{fullShare} X8)
        ∗ (arg9.view.loc (c : Thread nD τ) ↦[arg9.view.set]{fullShare} arg9.view.writes (Elt F) f9
            [⟨Rect.unit (s := S1x256x512) ![0, 0, 256] S1x256x128.size inb_S1x256x512_S1x256x128_0_0_256,
                k0_pay36 (accTo v12 v53 v58 v70 key (chunk arg8 X8) (i 2).val (cnt (i 2).val)) (scal2 arg5 X5 (i 1).val)⟩,
              ⟨Rect.unit (s := S1x256x512) ![0, 0, 128] S1x256x128.size inb_S1x256x512_S1x256x128_0_0_128,
                k0_pay35 (accTo v12 v53 v58 v70 key (chunk arg8 X8) (i 2).val (cnt (i 2).val)) (scal2 arg5 X5 (i 1).val)⟩,
              ⟨Rect.unit (s := S1x256x512) ![0, 0, 0] S1x256x128.size inb_S1x256x512_S1x256x128_0_0_0,
                k0_pay34 (accTo v12 v53 v58 v70 key (chunk arg8 X8) (i 2).val (cnt (i 2).val)) (scal2 arg5 X5 (i 1).val)⟩])
        ∗ (arg10.view.loc (c : Thread nD τ) ↦[arg10.view.set]{fullShare} f10)
        ∗ (∃ g, arg12.view.loc (c : Thread nD τ) ↦[arg12.view.set]{fullShare} g)
        ∗ ⌜r = k0_pay33 (accTo v12 v53 v58 v70 key (chunk arg8 X8) (i 2).val (cnt (i 2).val)) (scal2 arg5 X5 (i 1).val)⌝)) := by
  have h2 : (i 1).val < 2 := (i 1).isLt
  iintro ⟨H5, H8, H9, H10, H12⟩
  rw [k0_part4_eq_skeleton]
  unfold k0_part4_skel
  sl_exec
  have hA := acc_after5 i arg8 arg10 arg12 v12 v53 v58 v70 X8 key f10 hf10
    [⟨Rect.unit (s := S128x1024) ![0, 0] S128x1024.size inb_S128x1024_S128x1024_0_0, k0_pay30⟩]
    (by
      unfold readAcc
      rw [View.readAt_writes_full])
  have h122 : part4_run.sl.v122 i arg8 arg10 arg12 v108 v109 X8 f10
      = accTo v12 v53 v58 v70 key (chunk arg8 X8) (i 2).val (cnt (i 2).val) := by
    rw [← hA, e108, e109]
    unfold part4_run.sl.v122 part4_run.sl.H12_1
    rfl
  rw [h122]
  unfold part4_run.sl.r
  rw [load_scal2 arg5 X5 _ (i 1).val (by omega) (off2_eq i)]
  sl_step
  isplitl [H5]
  · iexact H5
  isplitl [H8]
  · iexact H8
  isplitl [H9]
  · iexact H9
  isplitl [H10]
  · iexact H10
  isplitl [H12]
  · iexists _
    iexact H12
  · ipureintro
    rfl

/-- The kernel function at one grid point: it leaves its operands as they were and writes the four head groups of its
    output block; its scratch may hold anything before and after. -/
theorem body_run (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (f9 : BufTy.Contents (Elt F) arg9.view.ty) (f10 : BufTy.Contents (Elt F) arg10.view.ty)
    (f11 : BufTy.Contents (Elt F) arg11.view.ty) (f12 : BufTy.Contents (Elt F) arg12.view.ty) :
    (iprop((arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (arg8.view.loc (c : Thread nD τ) ↦[arg8.view.set]{fullShare} X8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)) : sProp 𝕄)
    ⊢ wp frame (wpE (defs₀ (F := F)) 𝒱 (c : Thread nD τ) bd) E (cc0_fp8_swa_gqa (F := F) i arg3 harg3 arg4 harg4 arg5 harg5 arg6 harg6 arg7 harg7 arg8 harg8 arg9 harg9 arg10 harg10 arg11 harg11 arg12 harg12)
      (fun _ => iprop((arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} X7)
        ∗ (arg8.view.loc (c : Thread nD τ) ↦[arg8.view.set]{fullShare} X8)
        ∗ (arg9.view.loc (c : Thread nD τ) ↦[arg9.view.set]{fullShare} arg9.view.writes (Elt F) f9
            [⟨Rect.unit (s := S1x256x512) ![0, 0, 384] S1x256x128.size inb_S1x256x512_S1x256x128_0_0_384,
                k0_pay1 (k0_pay33 (acc (queries arg6 X6) (scal8 arg3 X3) (scal2 arg4 X4) (i 1).val (i 2).val (chunk arg7 X7) (chunk arg8 X8)) (scal2 arg5 X5 (i 1).val))⟩,
              ⟨Rect.unit (s := S1x256x512) ![0, 0, 256] S1x256x128.size inb_S1x256x512_S1x256x128_0_0_256,
                k0_pay36 (acc (queries arg6 X6) (scal8 arg3 X3) (scal2 arg4 X4) (i 1).val (i 2).val (chunk arg7 X7) (chunk arg8 X8)) (scal2 arg5 X5 (i 1).val)⟩,
              ⟨Rect.unit (s := S1x256x512) ![0, 0, 128] S1x256x128.size inb_S1x256x512_S1x256x128_0_0_128,
                k0_pay35 (acc (queries arg6 X6) (scal8 arg3 X3) (scal2 arg4 X4) (i 1).val (i 2).val (chunk arg7 X7) (chunk arg8 X8)) (scal2 arg5 X5 (i 1).val)⟩,
              ⟨Rect.unit (s := S1x256x512) ![0, 0, 0] S1x256x128.size inb_S1x256x512_S1x256x128_0_0_0,
                k0_pay34 (acc (queries arg6 X6) (scal8 arg3 X3) (scal2 arg4 X4) (i 1).val (i 2).val (chunk arg7 X7) (chunk arg8 X8)) (scal2 arg5 X5 (i 1).val)⟩])
        ∗ (∃ g, arg10.view.loc (c : Thread nD τ) ↦[arg10.view.set]{fullShare} g)
        ∗ (∃ g, arg11.view.loc (c : Thread nD τ) ↦[arg11.view.set]{fullShare} g)
        ∗ (∃ g, arg12.view.loc (c : Thread nD τ) ↦[arg12.view.set]{fullShare} g))) := by
  have h1 := part1_run (F := F) 𝒱 c bd E i arg3 harg3 arg4 harg4 arg5 harg5 arg6 harg6 arg7 harg7 arg8 harg8 arg9 harg9 arg10 harg10 arg11 harg11 arg12 harg12 X3 X4 X6
  have h2 := fun arg1 arg2 v3 c4 (v12 : FVec F S1024x128 .fp8e4m3) (v22 v32 : FVec F S1x256 .f32) (f10 : BufTy.Contents (Elt F) arg10.view.ty) => part2_run (F := F) 𝒱 c bd E i arg3 harg3 arg4 harg4 arg5 harg5 arg6 harg6 arg7 harg7 arg8 harg8 arg9 harg9 arg10 harg10 arg11 harg11 arg12 harg12 arg1 arg2 v3 c4 v12 v22 v32 X3 X4 X7 f10
  have h3 := fun arg2 v1 v3 v12 v53 v58 v70 v75 f10 f11 (e12 : v12 = queries arg6 X6)
      (e53 : v53 = colScale (scal8 arg3 X3) (scal2 arg4 X4) (i 1).val) (e58 : v58 = k0_pay6)
      (e70 : v70 = diag v12 (scal8 arg3 X3) (scal2 arg4 X4) (i 1).val (i 2).val (chunk arg7 X7)) =>
    part3_restated (F := F) 𝒱 c bd E i arg3 harg3 arg4 harg4 arg5 harg5 arg6 harg6 arg7 harg7 arg8 harg8 arg9 harg9 arg10 harg10 arg11 harg11 arg12 harg12 arg2 v1 v3 v12 v53 v58 v70 v75 X7 f10 f11
      (queries arg6 X6) (colScale (scal8 arg3 X3) (scal2 arg4 X4) (i 1).val) k0_pay6
      (diag (queries arg6 X6) (scal8 arg3 X3) (scal2 arg4 X4) (i 1).val (i 2).val (chunk arg7 X7))
      e12 e53 e58 (e12 ▸ e70)
  have h4 := fun arg1 v1 v3 => part4_run (F := F) 𝒱 c bd E i arg3 harg3 arg4 harg4 arg5 harg5 arg6 harg6 arg7 harg7 arg8 harg8 arg9 harg9 arg10 harg10 arg11 harg11 arg12 harg12 arg1 v1 v3
    (queries arg6 X6) (colScale (scal8 arg3 X3) (scal2 arg4 X4) (i 1).val) k0_pay6
    (diag (queries arg6 X6) (scal8 arg3 X3) (scal2 arg4 X4) (i 1).val (i 2).val (chunk arg7 X7)) (chunk arg7 X7)
  iintro ⟨H3, H4, H5, H6, H7, H8, H9, H10, H11, H12⟩
  rw [cc0_fp8_swa_gqa_eq_skeleton]
  unfold cc0_fp8_swa_gqa_skel
  sl_exec
  subst hk0_part4_5
  unfold acc
  sl_step
  isplitl [Hk0_part2_0]
  · iexact Hk0_part2_0
  isplitl [Hk0_part2_1]
  · iexact Hk0_part2_1
  isplitl [Hk0_part4_0]
  · iexact Hk0_part4_0
  isplitl [Hk0_part1_2]
  · iexact Hk0_part1_2
  isplitl [Hk0_part3_0]
  · iexact Hk0_part3_0
  isplitl [Hk0_part4_1]
  · iexact Hk0_part4_1
  isplitl [Hk0_part4_2]
  · iexact Hk0_part4_2
  isplitl [Hk0_part4_3]
  · iexists _
    iexact Hk0_part4_3
  isplitl [Hk0_part3_3]
  · iexists _
    iexact Hk0_part3_3
  · iexists _
    iexact Hk0_part4_4

end Cert.Kernel.Hand
-- ==== Proof.P.Run.lean ====
module

public import proofs.«01_k».proof.Proof.P.Body
public import proofs.«01_k».proof.Proof.Gen.Kernel.Frame
public import proofs.«01_k».proof.Proof.Gen.Kernel.Points
public import Idealize.ShloMosaic.Lib.Pipeline.FrameBody
public import Idealize.ShloMosaic.Lib.Claim

/-!
One launch of the kernel: what a grid point leaves in its output block, and the run over the whole grid.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## What one grid point computes, from the blocks of its windows -/

/-- Chunk `j` of a block of keys or values. -/
def chunkOf (x : Vec F S1x8192x128 .fp8e4m3) (j : ℕ) : Vec F S1x256x128 .fp8e4m3 :=
  View.ld x (Rect.unit (s := S1x8192x128) ![0, min j 31 * 256, 0] S1x256x128.size (chunk_inb j))

/-- The scale of query head `n`. -/
def scalOf8 (x : Vec F S8 .f32) (n : ℕ) : Elt F .f32 :=
  View.ld x (Rect.unit (s := S8) ![min n 7] S1.size (scal_inb8 n)) (Shape.Idx.first (show 0 < S1.numel by decide))

/-- The scale of key-value head `n`. -/
def scalOf2 (x : Vec F S2 .f32) (n : ℕ) : Elt F .f32 :=
  View.ld x (Rect.unit (s := S2) ![min n 1] S1.size (scal_inb2 n)) (Shape.Idx.first (show 0 < S1.numel by decide))

abbrev lane0 : Rect S1x256x512 := Rect.unit (s := S1x256x512) ![0, 0, 0] S1x256x128.size inb_S1x256x512_S1x256x128_0_0_0
abbrev lane1 : Rect S1x256x512 := Rect.unit (s := S1x256x512) ![0, 0, 128] S1x256x128.size inb_S1x256x512_S1x256x128_0_0_128
abbrev lane2 : Rect S1x256x512 := Rect.unit (s := S1x256x512) ![0, 0, 256] S1x256x128.size inb_S1x256x512_S1x256x128_0_0_256
abbrev lane3 : Rect S1x256x512 := Rect.unit (s := S1x256x512) ![0, 0, 384] S1x256x128.size inb_S1x256x512_S1x256x128_0_0_384

/-- The four head groups of a block of queries, stacked. -/
def queriesOf (x : Vec F S1x256x512 .fp8e4m3) : FVec F S1024x128 .fp8e4m3 :=
  k0_pay2 (View.ld x lane0) (View.ld x lane1) (View.ld x lane2) (View.ld x lane3)

/-- The accumulated products of a grid point with key-value head `h` and query block `b`. -/
def accOf (h b : ℕ) (x0 : Vec F S8 .f32) (x1 : Vec F S2 .f32) (x3 : Vec F S1x256x512 .fp8e4m3)
    (x4 x5 : Vec F S1x8192x128 .fp8e4m3) : FVec F S128x1024 .f32 :=
  acc (queriesOf x3) (scalOf8 x0) (scalOf2 x1) h b (chunkOf x4) (chunkOf x5)

/-- What a grid point leaves in its output block: one head group in each quarter of the lanes. -/
def outBlk (h b : ℕ) (x0 : Vec F S8 .f32) (x1 x2 : Vec F S2 .f32) (x3 : Vec F S1x256x512 .fp8e4m3)
    (x4 x5 : Vec F S1x8192x128 .fp8e4m3) : Vec F S1x256x512 .bf16 :=
  View.canon [⟨lane3, k0_pay1 (k0_pay33 (accOf h b x0 x1 x3 x4 x5) (scalOf2 x2 h))⟩,
    ⟨lane2, k0_pay36 (accOf h b x0 x1 x3 x4 x5) (scalOf2 x2 h)⟩,
    ⟨lane1, k0_pay35 (accOf h b x0 x1 x3 x4 x5) (scalOf2 x2 h)⟩,
    ⟨lane0, k0_pay34 (accOf h b x0 x1 x3 x4 x5) (scalOf2 x2 h)⟩]

/-- The four stores fill the block. -/
theorem cover_out (p0 p1 p2 p3 : Vec F S1x256x128 .bf16) (y : S1x256x512.Idx) :
    ∃ pc ∈ ([⟨lane3, p3⟩, ⟨lane2, p2⟩, ⟨lane1, p1⟩, ⟨lane0, p0⟩] : List (View.Piece (Elt F) S1x256x512 .bf16)), y ∈ pc.1.set :=
  View.cover_of_tiled [⟨lane3, p3⟩, ⟨lane2, p2⟩, ⟨lane1, p1⟩, ⟨lane0, p0⟩] S1x256x128.size (by rfl) y

/-! ## The body's triple -/

/-- The body, on whole buffers: it leaves its inputs as they were and the output block at `outBlk` of them. -/
theorem sound_kernel (c : Dev nD) (E : Set ℕ) (i : grid0.Coords)
    (arg3 : Memref sig .tc .smem S8 .f32) (harg3 : arg3.IsWhole) (arg4 : Memref sig .tc .smem S2 .f32)
    (harg4 : arg4.IsWhole) (arg5 : Memref sig .tc .smem S2 .f32) (harg5 : arg5.IsWhole)
    (arg6 : Memref sig .tc .vmem S1x256x512 .fp8e4m3) (harg6 : arg6.IsWhole)
    (arg7 : Memref sig .tc .vmem S1x8192x128 .fp8e4m3) (harg7 : arg7.IsWhole)
    (arg8 : Memref sig .tc .vmem S1x8192x128 .fp8e4m3) (harg8 : arg8.IsWhole)
    (arg9 : Memref sig .tc .vmem S1x256x512 .bf16) (harg9 : arg9.IsWhole)
    (x0 : Vec F S8 .f32) (x1 x2 : Vec F S2 .f32) (x3 : Vec F S1x256x512 .fp8e4m3)
    (x4 x5 : Vec F S1x8192x128 .fp8e4m3) (K : PUnit → sProp 𝕄) :
    iprop(Pipeline.ΦA spec0 c ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
      ∗ (iprop(Pipeline.ΦA spec0 c ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlk (i 1).val (i 2).val x0 x1 x2 x3 x4 x5)) -∗ K ⟨⟩))
      ⊢ wp frame (wpE (defs₀ (F := F)) Variants.none c none) E (cc0_fp8_swa_gqa i arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _)) K := by
  unfold owns Pipeline.ΦA
  rw [scopedRest0_eq]
  iintro ⟨⟨⟨⟨%g0, S0⟩, ⟨%g1, S1⟩, ⟨%g2, S2⟩⟩, HP⟩, ⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  iapply (wp_wand_r frame _ E)
  isplitl [H0 H1 H2 H3 H4 H5 H6 S0 S1 S2]
  · iapply (body_run Variants.none c none E i arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) f0 f1 f2 f3 f4 f5 f6 g0 g1 g2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]
    · rw [show (Memref.whole cc0_scratch0).view.set = Finset.univ from View.set_whole _]; iexact S0
    isplitl [S1]
    · rw [show (Memref.whole cc0_scratch1).view.set = Finset.univ from View.set_whole _]; iexact S1
    rw [show (Memref.whole cc0_scratch2).view.set = Finset.univ from View.set_whole _]; iexact S2
  iintro %_ ⟨H0, H1, H2, H3, H4, H5, H6, ⟨%e0, S0⟩, ⟨%e1, S1⟩, ⟨%e2, S2⟩⟩
  iapply Hk
  isplitl [S0 S1 S2 HP]
  · isplitl [S0 S1 S2]
    · isplitl [S0]
      · iexists e0
        rw [show (Memref.whole cc0_scratch0).view.set = Finset.univ from View.set_whole _]; iexact S0
      isplitl [S1]
      · iexists e1
        rw [show (Memref.whole cc0_scratch1).view.set = Finset.univ from View.set_whole _]; iexact S1
      iexists e2
      rw [show (Memref.whole cc0_scratch2).view.set = Finset.univ from View.set_whole _]; iexact S2
    iexact HP
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _ _ _)

/-! ## The pipeline's proof data -/

variable (m : (ℓ : Loc nD τ sig) → Buf (Elt F) ℓ) (ρ : Dev nD → PrngReg)

/-- After the body at a point each input's buffer holds its block, and the output's holds `outBlk` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t 1).val (grid0.coords t 2).val (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlk (grid0.coords t 1).val (grid0.coords t 2).val (iblk m c 0 t) (iblk m c 1 t) (iblk m c 2 t) (iblk m c 3 t) (iblk m c 4 t) (iblk m c 5 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.castSucc = Pipeline.ΦA spec0 c from rfl,
    show (dats m 0 c).Φ t.succ = Pipeline.ΦA spec0 c from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨HΦ, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch ends with every array at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The launch terminates, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.KI.Offsets.lean ====
module

public import proofs.«01_k».proof.Proof.Gen.KernelIdeal.Skeleton
public import Idealize.ShloMosaic.Lib.LoopRemainder

/-!
Where one grid point of the attention kernel reads and writes, in plain numbers.

A grid point's last coordinate `b` is its block of 256 queries. The keys it looks at are the chunks of 256
from chunk `lo b` to chunk `b`: `cnt b` chunks. Slot `j` of the scratch holds the chunk `lo b + j`. The loop
over the chunks that need no mask starts at slot `fst b` and ends before the last slot.
-/

@[expose] public section

noncomputable section

namespace Cert.KernelIdeal.Hand

open Cert.KernelIdeal Cert.KernelIdeal.Gen
open Idealize.ShloMosaic

/-- The first chunk of 256 keys that query block `b` looks at. -/
def lo (b : ℕ) : ℕ := b - 16
/-- How many chunks of keys query block `b` looks at. -/
def cnt (b : ℕ) : ℕ := b - (b - 16) + 1
/-- The first slot that needs no mask. -/
def fst (b : ℕ) : ℕ := if 16 ≤ b then 1 else 0

/-- A grid point with query block `a`. -/
def gp (a : Fin 32) : grid0.Coords := fun j => match j with
  | 0 => ⟨0, by decide⟩
  | 1 => ⟨0, by decide⟩
  | 2 => a

theorem blk_lt (i : grid0.Coords) : (i 2).val < 32 := (i 2).isLt

theorem cond1_iff (i : grid0.Coords) : k0_cond1 i = 1#1 ↔ 16 ≤ (i 2).val := by
  have h : ∀ a : Fin 32, k0_cond1 (gp a) = 1#1 ↔ 16 ≤ a.val := by decide +kernel
  exact h (i 2)

theorem off3_eq (i : grid0.Coords) : k0_off3 i = ![0, (i 2).val * 256, 0] := by
  have h : ∀ a : Fin 32, k0_off3 (gp a) = ![0, a.val * 256, 0] := by decide +kernel
  exact h (i 2)

theorem off4_eq (i : grid0.Coords) : k0_off4 i = ![(cnt (i 2).val - 1) * 256, 0] := by
  have h : ∀ a : Fin 32, k0_off4 (gp a) = ![(cnt a.val - 1) * 256, 0] := by decide +kernel
  exact h (i 2)

theorem off5_eq (i : grid0.Coords) : k0_off5 i = ![0, lo (i 2).val * 256, 0] := by
  have h : ∀ a : Fin 32, k0_off5 (gp a) = ![0, lo a.val * 256, 0] := by decide +kernel
  exact h (i 2)

theorem trips1 (i : grid0.Coords) : (k0_t1_loop i).trips = cnt (i 2).val - 1 - fst (i 2).val := by
  have h : ∀ a : Fin 32, (k0_t1_loop (gp a)).trips = cnt a.val - 1 - fst a.val := by decide +kernel
  exact h (i 2)

theorem trips3 (i : grid0.Coords) : (k0_t3_loop i).trips = cnt (i 2).val := by
  have h : ∀ a : Fin 32, (k0_t3_loop (gp a)).trips = cnt a.val := by decide +kernel
  exact h (i 2)

theorem trips5 (i : grid0.Coords) : (k0_t5_loop i).trips = cnt (i 2).val := by
  have h : ∀ a : Fin 32, (k0_t5_loop (gp a)).trips = cnt a.val := by decide +kernel
  exact h (i 2)

theorem trips2 (i : grid0.Coords) : (k0_t2_loop i).trips = 0 := by
  have h : ∀ a : Fin 32, (k0_t2_loop (gp a)).trips = 0 := by decide +kernel
  exact h (i 2)

theorem trips4 (i : grid0.Coords) : (k0_t4_loop i).trips = 0 := by
  have h : ∀ a : Fin 32, (k0_t4_loop (gp a)).trips = 0 := by decide +kernel
  exact h (i 2)

theorem trips6 (i : grid0.Coords) : (k0_t6_loop i).trips = 0 := by
  have h : ∀ a : Fin 32, (k0_t6_loop (gp a)).trips = 0 := by decide +kernel
  exact h (i 2)

theorem off6_eq (i : grid0.Coords) (k : Fin (k0_t1_loop i).trips) :
    k0_off6 i k = ![0, (lo (i 2).val + (fst (i 2).val + k.val)) * 256, 0] := by
  have h : ∀ a : Fin 32, ∀ k : Fin (k0_t1_loop (gp a)).trips,
      k0_off6 (gp a) k = ![0, (lo a.val + (fst a.val + k.val)) * 256, 0] := by decide +kernel
  exact h (i 2) k

theorem off7_eq (i : grid0.Coords) (k : Fin (k0_t1_loop i).trips) :
    k0_off7 i k = ![(fst (i 2).val + k.val) * 256, 0] := by
  have h : ∀ a : Fin 32, ∀ k : Fin (k0_t1_loop (gp a)).trips,
      k0_off7 (gp a) k = ![(fst a.val + k.val) * 256, 0] := by decide +kernel
  exact h (i 2) k

theorem off10_eq (i : grid0.Coords) (k : Fin (k0_t3_loop i).trips) : k0_off10 i k = ![k.val * 256, 0] := by
  have h : ∀ a : Fin 32, ∀ k : Fin (k0_t3_loop (gp a)).trips, k0_off10 (gp a) k = ![k.val * 256, 0] := by
    decide +kernel
  exact h (i 2) k

theorem off12_eq (i : grid0.Coords) (k : Fin (k0_t5_loop i).trips) : k0_off12 i k = ![k.val * 256, 0] := by
  have h : ∀ a : Fin 32, ∀ k : Fin (k0_t5_loop (gp a)).trips, k0_off12 (gp a) k = ![k.val * 256, 0] := by
    decide +kernel
  exact h (i 2) k

theorem off13_eq (i : grid0.Coords) (k : Fin (k0_t5_loop i).trips) :
    k0_off13 i k = ![0, (lo (i 2).val + k.val) * 256, 0] := by
  have h : ∀ a : Fin 32, ∀ k : Fin (k0_t5_loop (gp a)).trips,
      k0_off13 (gp a) k = ![0, (lo a.val + k.val) * 256, 0] := by decide +kernel
  exact h (i 2) k

theorem off1_eq (i : grid0.Coords) (g : Fin 4) : k0_off1 i (BitVec.ofNat 32 g.val) = ![(i 1).val * 4 + g.val] := by
  have h : ∀ b : Fin 2, ∀ g : Fin 4, k0_off1 (fun j => match j with
      | 0 => ⟨0, by decide⟩
      | 1 => b
      | 2 => ⟨0, by decide⟩) (BitVec.ofNat 32 g.val) = ![b.val * 4 + g.val] := by decide +kernel
  exact h (i 1) g

theorem off2_eq (i : grid0.Coords) : k0_off2 i = ![(i 1).val] := by
  have h : ∀ b : Fin 2, k0_off2 (fun j => match j with
      | 0 => ⟨0, by decide⟩
      | 1 => b
      | 2 => ⟨0, by decide⟩) = ![b.val] := by decide +kernel
  exact h (i 1)

/-- The slots in use, and the chunks they stand for, lie inside the scratch and inside the keys. -/
theorem cnt_le (b : ℕ) : cnt b ≤ 17 := by unfold cnt; omega
theorem cnt_pos (b : ℕ) : 0 < cnt b := by unfold cnt; omega
theorem fst_le (b : ℕ) (_h : b < 32) : fst b ≤ cnt b - 1 := by unfold fst cnt; split <;> omega
theorem lo_add (b : ℕ) (j : ℕ) (h : b < 32) (hj : j < cnt b) : lo b + j < 32 := by unfold lo cnt at *; omega

end Cert.KernelIdeal.Hand
-- ==== Proof.KI.Slots.lean ====
module

public import proofs.«01_k».proof.Proof.KI.Offsets
public import Idealize.ShloMosaic.Lib.WritesUnit
public import Idealize.ShloMosaic.Lib.VecWindow

/-!
The scratch that holds the logits, read slot by slot, and the keys and values read chunk by chunk.
-/

@[expose] public section

noncomputable section

namespace Cert.KernelIdeal.Hand

open Cert.KernelIdeal Cert.KernelIdeal.Gen
open Idealize.ShloMosaic

variable {F : FTy → Type}

theorem slot_inb (j : ℕ) : ∀ a, (![min j 16 * 256, 0] : Fin 2 → ℕ) a + S256x1024.size a ≤ S4352x1024.size a := by
  intro a
  fin_cases a
  · show min j 16 * 256 + 256 ≤ 4352
    omega
  · show 0 + 1024 ≤ 1024
    omega

theorem chunk_inb (j : ℕ) :
    ∀ a, (![0, min j 31 * 256, 0] : Fin 3 → ℕ) a + S1x256x128.size a ≤ S1x8192x128.size a := by
  intro a
  fin_cases a
  · show 0 + 1 ≤ 1
    omega
  · show min j 31 * 256 + 256 ≤ 8192
    omega
  · show 0 + 128 ≤ 128
    omega

/-- Slot `j` of the scratch: its rows `256 j` to `256 j + 255`. -/
def slot (M : Memref sig .tc .vmem S4352x1024 .f32) (f : BufTy.Contents (Elt F) M.view.ty) (j : ℕ) :
    Vec F S256x1024 .f32 :=
  M.view.readAt (Elt F) (Rect.unit (s := S4352x1024) ![min j 16 * 256, 0] S256x1024.size (slot_inb j)).toLoadRect f

/-- Chunk `j` of the keys (or the values): their rows `256 j` to `256 j + 255`. -/
def chunk (M : Memref sig .tc .vmem S1x8192x128 .fp8e4m3) (f : BufTy.Contents (Elt F) M.view.ty) (j : ℕ) :
    Vec F S1x256x128 .fp8e4m3 :=
  M.view.readAt (Elt F) (Rect.unit (s := S1x8192x128) ![0, min j 31 * 256, 0] S1x256x128.size (chunk_inb j)).toLoadRect f

theorem scal_inb8 (n : ℕ) : ∀ a, (![min n 7] : Fin 1 → ℕ) a + S1.size a ≤ S8.size a := by
  intro a
  fin_cases a
  show min n 7 + 1 ≤ 8
  omega

theorem scal_inb2 (n : ℕ) : ∀ a, (![min n 1] : Fin 1 → ℕ) a + S1.size a ≤ S2.size a := by
  intro a
  fin_cases a
  show min n 1 + 1 ≤ 2
  omega

/-- Entry `n` of an array of eight scalars. -/
def scal8 (M : Memref sig .tc .smem S8 .f32) (f : BufTy.Contents (Elt F) M.view.ty) (n : ℕ) : Elt F .f32 :=
  M.view.readAt (Elt F) (Rect.unit (s := S8) ![min n 7] S1.size (scal_inb8 n)).toLoadRect f (Shape.Idx.first (show 0 < S1.numel by decide))

/-- Entry `n` of an array of two scalars. -/
def scal2 (M : Memref sig .tc .smem S2 .f32) (f : BufTy.Contents (Elt F) M.view.ty) (n : ℕ) : Elt F .f32 :=
  M.view.readAt (Elt F) (Rect.unit (s := S2) ![min n 1] S1.size (scal_inb2 n)).toLoadRect f (Shape.Idx.first (show 0 < S1.numel by decide))

theorem load_scal8 (M : Memref sig .tc .smem S8 .f32) (f : BufTy.Contents (Elt F) M.view.ty) {off : Fin 1 → ℕ}
    (inb : ∀ a, off a + S1.size a ≤ S8.size a) (n : ℕ) (hn : n ≤ 7) (h : off = ![n]) (hp) :
    M.view.readAt (Elt F) (Rect.unit (s := S8) off S1.size inb).toLoadRect f (Shape.Idx.first hp) = scal8 M f n := by
  have e : off = ![min n 7] := by rw [h, show min n 7 = n by omega]
  subst e
  rfl

theorem load_scal2 (M : Memref sig .tc .smem S2 .f32) (f : BufTy.Contents (Elt F) M.view.ty) {off : Fin 1 → ℕ}
    (inb : ∀ a, off a + S1.size a ≤ S2.size a) (n : ℕ) (hn : n ≤ 1) (h : off = ![n]) (hp) :
    M.view.readAt (Elt F) (Rect.unit (s := S2) off S1.size inb).toLoadRect f (Shape.Idx.first hp) = scal2 M f n := by
  have e : off = ![min n 1] := by rw [h, show min n 1 = n by omega]
  subst e
  rfl

variable (M : Memref sig .tc .vmem S4352x1024 .f32) (f : BufTy.Contents (Elt F) M.view.ty)

/-- A load of a slot's rows reads the slot. -/
theorem load_slot {off : Fin 2 → ℕ} (inb : ∀ a, off a + S256x1024.size a ≤ S4352x1024.size a) (j : ℕ) (hj : j ≤ 16)
    (h : off = ![j * 256, 0]) :
    M.view.readAt (Elt F) (Rect.unit (s := S4352x1024) off S256x1024.size inb).toLoadRect f = slot M f j := by
  have e : off = ![min j 16 * 256, 0] := by rw [h, show min j 16 = j by omega]
  subst e
  rfl

/-- A load of a chunk's rows reads the chunk. -/
theorem load_chunk (M : Memref sig .tc .vmem S1x8192x128 .fp8e4m3) (f : BufTy.Contents (Elt F) M.view.ty)
    {off : Fin 3 → ℕ} (inb : ∀ a, off a + S1x256x128.size a ≤ S1x8192x128.size a) (j : ℕ) (hj : j < 32)
    (h : off = ![0, j * 256, 0]) :
    M.view.readAt (Elt F) (Rect.unit (s := S1x8192x128) off S1x256x128.size inb).toLoadRect f = chunk M f j := by
  have e : off = ![0, min j 31 * 256, 0] := by rw [h, show min j 31 = j by omega]
  subst e
  rfl

/-- A store of a slot's rows, read back at the same slot. -/
theorem slot_write_same {off : Fin 2 → ℕ} (inb : ∀ a, off a + S256x1024.size a ≤ S4352x1024.size a)
    (w : Vec F S256x1024 .f32) (L : List (View.Piece (Elt F) S4352x1024 .f32)) (j : ℕ) (hj : j ≤ 16)
    (h : off = ![j * 256, 0]) :
    slot M (M.view.writes (Elt F) f (⟨Rect.unit (s := S4352x1024) off S256x1024.size inb, w⟩ :: L)) j = w := by
  have e : min j 16 = j := by omega
  funext x
  unfold slot
  rw [View.readAt_apply]
  refine View.read_writes_cons_unit_of_mem M.view f inb w L _ x h fun a => ?_
  fin_cases a
  · show min j 16 * 256 + 1 * (x 0).val = j * 256 + (x 0).val
    rw [e, one_mul]
  · show 0 + 1 * (x 1).val = 0 + (x 1).val
    rw [one_mul]

/-- A store of a slot's rows leaves the other slots. -/
theorem slot_write_other {off : Fin 2 → ℕ} (inb : ∀ a, off a + S256x1024.size a ≤ S4352x1024.size a)
    (w : Vec F S256x1024 .f32) (L : List (View.Piece (Elt F) S4352x1024 .f32)) (j j' : ℕ) (hj' : j' ≤ 16)
    (h : off = ![j * 256, 0]) (hne : j' ≠ j) :
    slot M (M.view.writes (Elt F) f (⟨Rect.unit (s := S4352x1024) off S256x1024.size inb, w⟩ :: L)) j'
      = slot M (M.view.writes (Elt F) f L) j' := by
  have e : min j' 16 = j' := by omega
  funext x
  unfold slot
  rw [View.readAt_apply, View.readAt_apply]
  refine View.read_writes_cons_unit_of_not_mem M.view f inb w L _ h (0 : Fin 2) ?_
  have hx : (x 0).val < 256 := (x 0).isLt
  show min j' 16 * 256 + 1 * (x 0).val < j * 256 ∨ j * 256 + 256 ≤ min j' 16 * 256 + 1 * (x 0).val
  rw [e]
  omega

end Cert.KernelIdeal.Hand
-- ==== Proof.KI.Loops.lean ====
module

public import proofs.«01_k».proof.Proof.KI.Slots
public import proofs.«01_k».proof.Proof.Gen.KernelIdeal.Loops
public import Idealize.ShloMosaic.Lib.Exec
public import Idealize.ShloMosaic.Lib.Tactic
public import Idealize.ShloMosaic.Lib.Pipeline.Kit

/-!
The kernel's three counted loops, each by what its memory holds before trip `k`.

The first loop writes the logits of the chunks that need no mask and keeps the running column maximum; the
second turns every slot of logits into exponentials and carries their running sum; the third adds one chunk's
share of the weighted values to the accumulator. The loops that the program has after each of them, for a
remainder of the step never run: the step is one.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

section Args

variable (𝒱 : Variants) (c : Dev nD) (bd : Option 𝒱.V) (E : Set ℕ) (i : grid0.Coords)
  (arg3 : Memref sig .tc .smem S8 .f32) (harg3 : arg3.IsWhole) (arg4 : Memref sig .tc .smem S2 .f32)
  (harg4 : arg4.IsWhole) (arg5 : Memref sig .tc .smem S2 .f32) (harg5 : arg5.IsWhole)
  (arg6 : Memref sig .tc .vmem S1x256x512 .fp8e4m3) (harg6 : arg6.IsWhole)
  (arg7 : Memref sig .tc .vmem S1x8192x128 .fp8e4m3) (harg7 : arg7.IsWhole)
  (arg8 : Memref sig .tc .vmem S1x8192x128 .fp8e4m3) (harg8 : arg8.IsWhole)
  (arg9 : Memref sig .tc .vmem S1x256x512 .bf16) (harg9 : arg9.IsWhole)
  (arg10 : Memref sig .tc .vmem S4352x1024 .f32) (harg10 : arg10.IsWhole)
  (arg11 : Memref sig .tc .vmem S8x1024 .f32) (harg11 : arg11.IsWhole)
  (arg12 : Memref sig .tc .vmem S128x1024 .f32) (harg12 : arg12.IsWhole)
  (arg1 arg2 v1 v3 : BitVec 32)
  (v12 : FVec F S1024x128 .fp8e4m3) (v53 : FVec F S1x1024 .f32) (v58 : IVec S256x1024 32)

/-! ## The loop over the chunks without a mask -/

section First

variable (X7 : BufTy.Contents (Elt F) arg7.view.ty) (G10 : BufTy.Contents (Elt F) arg10.view.ty)
  (G11 : BufTy.Contents (Elt F) arg11.view.ty)

/-- The chunk of keys that trip `k` loads. -/
abbrev key1 (k : Fin (k0_t1_loop i).trips) : Vec F S1x256x128 .fp8e4m3 :=
  arg7.view.readAt (Elt F) (Rect.unit (s := S1x8192x128) (k0_off6 i k) S1x256x128.size (k0_off6_inb i k)).toLoadRect X7

/-- What the trips before `k` have stored in the scratch of logits, the last first. -/
def logits1 : ℕ → List (View.Piece (Elt F) S4352x1024 .f32)
  | 0 => []
  | k + 1 => if h : k < (k0_t1_loop i).trips then
      ⟨Rect.unit (s := S4352x1024) (k0_off7 i ⟨k, h⟩) S256x1024.size (k0_off7_inb i ⟨k, h⟩), k0_pay14 v12 v53 (key1 i arg7 X7 ⟨k, h⟩)⟩
        :: logits1 k
    else logits1 k

/-- What the trips before `k` have stored in the scratch of the running maximum, the last first. -/
def colmax1 : ℕ → List (View.Piece (Elt F) S8x1024 .f32)
  | 0 => []
  | k + 1 => if h : k < (k0_t1_loop i).trips then
      ⟨Rect.unit (s := S8x1024) ![0, 0] S8x1024.size inb_S8x1024_S8x1024_0_0,
          k0_pay15 v12 v53 (key1 i arg7 X7 ⟨k, h⟩)
            (arg11.view.readAt (Elt F) (Rect.unit (s := S8x1024) ![0, 0] S8x1024.size inb_S8x1024_S8x1024_0_0).toLoadRect (arg11.view.writes (Elt F) G11 (colmax1 k)))⟩
        :: colmax1 k
    else colmax1 k

theorem logits1_succ (k : Fin (k0_t1_loop i).trips) :
    logits1 i arg7 v12 v53 X7 (k.val + 1) =
        ⟨Rect.unit (s := S4352x1024) (k0_off7 i k) S256x1024.size (k0_off7_inb i k), k0_pay14 v12 v53 (key1 i arg7 X7 k)⟩
          :: logits1 i arg7 v12 v53 X7 k.val := by
  rw [logits1, dif_pos k.isLt]

theorem colmax1_succ (k : Fin (k0_t1_loop i).trips) :
    colmax1 i arg7 arg11 v12 v53 X7 G11 (k.val + 1) =
        ⟨Rect.unit (s := S8x1024) ![0, 0] S8x1024.size inb_S8x1024_S8x1024_0_0,
          k0_pay15 v12 v53 (key1 i arg7 X7 k)
            (arg11.view.readAt (Elt F) (Rect.unit (s := S8x1024) ![0, 0] S8x1024.size inb_S8x1024_S8x1024_0_0).toLoadRect
              (arg11.view.writes (Elt F) G11 (colmax1 i arg7 arg11 v12 v53 X7 G11 k.val)))⟩
          :: colmax1 i arg7 arg11 v12 v53 X7 G11 k.val := by
  rw [colmax1, dif_pos k.isLt]

set_option warn.classDefReducibility false in
/-- The first loop by its invariant. -/
@[sl_loop] def loopInv1 (v70 : FVec F S256x1024 .f32) (v75 : Vec F S256x1024 .f32) (init : BitVec 32) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg2 v1 v3 v12 v53 v58 v70 v75 init where
  inv k _ := iprop((arg7.view.loc (c : Thread nD τ) ↦[arg7.view.set]{fullShare} X7)
      ∗ (∃ f, (arg10.view.loc (c : Thread nD τ) ↦[arg10.view.set]{fullShare} f) ∗ ⌜f = arg10.view.writes (Elt F) G10 (logits1 i arg7 v12 v53 X7 k)⌝)
      ∗ (∃ f, (arg11.view.loc (c : Thread nD τ) ↦[arg11.view.set]{fullShare} f) ∗ ⌜f = arg11.view.writes (Elt F) G11 (colmax1 i arg7 arg11 v12 v53 X7 G11 k)⌝))
  step k acc := by
    iintro ⟨H7, ⟨%f10, H10, %h10⟩, ⟨%f11, H11, %h11⟩⟩
    subst h10 h11
    unfold k0_t1_body
    sl_exec
    sl_step
    rw [logits1_succ, colmax1_succ]
    isplitl [H7]; · iexact H7
    isplitl [H10]
    · iexists _; isplitl [H10]; · iexact H10
      ipureintro; rfl
    iexists _; isplitl [H11]; · iexact H11
    ipureintro; rfl

set_option warn.classDefReducibility false in
/-- Its remainder loop, which has no trip. -/
@[sl_loop] def loopInv2 (v70 : FVec F S256x1024 .f32) (v75 : Vec F S256x1024 .f32) (init : BitVec 32) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg2 v1 v3 v12 v53 v58 v70 v75 init where
  inv k _ := iprop(⌜True⌝)
  step k acc := (Nat.not_lt_zero _ (Nat.lt_of_lt_of_eq k.isLt (trips2 i))).elim

end First

/-! ## The loop of exponentials -/

section Second

variable (v96 : Vec F S8x1024 .f32) (G10 : BufTy.Contents (Elt F) arg10.view.ty)

/-- What the trips before `k` have stored in the scratch, the last first: exponentials in the place of logits. -/
def exps3 : ℕ → List (View.Piece (Elt F) S4352x1024 .f32)
  | 0 => []
  | k + 1 => if h : k < (k0_t3_loop i).trips then
      ⟨Rect.unit (s := S4352x1024) (k0_off10 i ⟨k, h⟩) S256x1024.size (k0_off10_inb i ⟨k, h⟩),
          k0_pay22 v96 (arg10.view.readAt (Elt F) (Rect.unit (s := S4352x1024) (k0_off10 i ⟨k, h⟩) S256x1024.size (k0_off10_inb i ⟨k, h⟩)).toLoadRect (arg10.view.writes (Elt F) G10 (exps3 k)))⟩
        :: exps3 k
    else exps3 k

/-- The running sum before trip `k`. -/
def sum3 (init : FVec F S8x1024 .f32) : ℕ → FVec F S8x1024 .f32
  | 0 => init
  | k + 1 => if h : k < (k0_t3_loop i).trips then
      k0_pay23 v96 (sum3 init k)
        (arg10.view.readAt (Elt F) (Rect.unit (s := S4352x1024) (k0_off10 i ⟨k, h⟩) S256x1024.size (k0_off10_inb i ⟨k, h⟩)).toLoadRect
          (arg10.view.writes (Elt F) G10 (exps3 i arg10 v96 G10 k)))
    else sum3 init k

theorem exps3_succ (k : Fin (k0_t3_loop i).trips) :
    exps3 i arg10 v96 G10 (k.val + 1) =
        ⟨Rect.unit (s := S4352x1024) (k0_off10 i k) S256x1024.size (k0_off10_inb i k),
          k0_pay22 v96 (arg10.view.readAt (Elt F) (Rect.unit (s := S4352x1024) (k0_off10 i k) S256x1024.size (k0_off10_inb i k)).toLoadRect
              (arg10.view.writes (Elt F) G10 (exps3 i arg10 v96 G10 k.val)))⟩
          :: exps3 i arg10 v96 G10 k.val := by
  rw [exps3, dif_pos k.isLt]

theorem sum3_succ (init : FVec F S8x1024 .f32) (k : Fin (k0_t3_loop i).trips) :
    sum3 i arg10 v96 G10 init (k.val + 1) = k0_pay23 v96 (sum3 i arg10 v96 G10 init k.val)
        (arg10.view.readAt (Elt F) (Rect.unit (s := S4352x1024) (k0_off10 i k) S256x1024.size (k0_off10_inb i k)).toLoadRect
          (arg10.view.writes (Elt F) G10 (exps3 i arg10 v96 G10 k.val))) := by
  rw [sum3, dif_pos k.isLt]

set_option warn.classDefReducibility false in
/-- The second loop by its invariant. -/
@[sl_loop] def loopInv3 (v70 : FVec F S256x1024 .f32) (v75 : Vec F S256x1024 .f32) (init : FVec F S8x1024 .f32) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 arg2 v1 v3 v12 v53 v58 v70 v75 v96 init where
  inv k acc := iprop((∃ f, (arg10.view.loc (c : Thread nD τ) ↦[arg10.view.set]{fullShare} f) ∗ ⌜f = arg10.view.writes (Elt F) G10 (exps3 i arg10 v96 G10 k)⌝)
      ∗ ⌜acc = sum3 i arg10 v96 G10 init k⌝)
  step k acc := by
    iintro ⟨⟨%f10, H10, %h10⟩, %ha⟩
    subst h10 ha
    unfold k0_t3_body
    sl_exec
    sl_step
    rw [exps3_succ, sum3_succ]
    isplitl [H10]
    · iexists _; isplitl [H10]; · iexact H10
      ipureintro; rfl
    ipureintro; rfl

set_option warn.classDefReducibility false in
/-- Its remainder loop, which has no trip. -/
@[sl_loop] def loopInv4 (v70 : FVec F S256x1024 .f32) (v75 : Vec F S256x1024 .f32) (init : FVec F S8x1024 .f32) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 arg12 harg12 arg2 v1 v3 v12 v53 v58 v70 v75 v96 init where
  inv k acc := iprop(⌜acc = init⌝)
  step k acc := (Nat.not_lt_zero _ (Nat.lt_of_lt_of_eq k.isLt (trips4 i))).elim

end Second

/-! ## The loop of weighted values -/

section Third

variable (v108 v109 : FVec F S1x1024 .f32) (X8 : BufTy.Contents (Elt F) arg8.view.ty)
  (G10 : BufTy.Contents (Elt F) arg10.view.ty) (G12 : BufTy.Contents (Elt F) arg12.view.ty)

/-- What the trips before `k` have stored in the accumulator, the last first. -/
def acc5 : ℕ → List (View.Piece (Elt F) S128x1024 .f32)
  | 0 => []
  | k + 1 => if h : k < (k0_t5_loop i).trips then
      ⟨Rect.unit (s := S128x1024) ![0, 0] S128x1024.size inb_S128x1024_S128x1024_0_0,
          k0_pay31 v108 v109
            (arg10.view.readAt (Elt F) (Rect.unit (s := S4352x1024) (k0_off12 i ⟨k, h⟩) S256x1024.size (k0_off12_inb i ⟨k, h⟩)).toLoadRect G10)
            (arg8.view.readAt (Elt F) (Rect.unit (s := S1x8192x128) (k0_off13 i ⟨k, h⟩) S1x256x128.size (k0_off13_inb i ⟨k, h⟩)).toLoadRect X8)
            (arg12.view.readAt (Elt F) (Rect.unit (s := S128x1024) ![0, 0] S128x1024.size inb_S128x1024_S128x1024_0_0).toLoadRect (arg12.view.writes (Elt F) G12 (acc5 k)))⟩
        :: acc5 k
    else acc5 k

theorem acc5_succ (k : Fin (k0_t5_loop i).trips) :
    acc5 i arg8 arg10 arg12 v108 v109 X8 G10 G12 (k.val + 1) =
        ⟨Rect.unit (s := S128x1024) ![0, 0] S128x1024.size inb_S128x1024_S128x1024_0_0,
          k0_pay31 v108 v109
            (arg10.view.readAt (Elt F) (Rect.unit (s := S4352x1024) (k0_off12 i k) S256x1024.size (k0_off12_inb i k)).toLoadRect G10)
            (arg8.view.readAt (Elt F) (Rect.unit (s := S1x8192x128) (k0_off13 i k) S1x256x128.size (k0_off13_inb i k)).toLoadRect X8)
            (arg12.view.readAt (Elt F) (Rect.unit (s := S128x1024) ![0, 0] S128x1024.size inb_S128x1024_S128x1024_0_0).toLoadRect
              (arg12.view.writes (Elt F) G12 (acc5 i arg8 arg10 arg12 v108 v109 X8 G10 G12 k.val)))⟩
          :: acc5 i arg8 arg10 arg12 v108 v109 X8 G10 G12 k.val := by
  rw [acc5, dif_pos k.isLt]

set_option warn.classDefReducibility false in
/-- The third loop by its invariant. -/
@[sl_loop] def loopInv5 (init : BitVec 32) :
    LoopInvTy_k0_t5 (F := F) Unit ℕ (UR sig nD τ) ℕ 𝒱 c bd E i arg3 harg3 arg4 harg4 arg5 harg5 arg6 harg6 arg7 harg7 arg8 harg8 arg9 harg9 arg10 harg10 arg11 harg11 arg12 harg12 arg1 v1 v3 v108 v109 init where
  inv k _ := iprop((arg8.view.loc (c : Thread nD τ) ↦[arg8.view.set]{fullShare} X8)
      ∗ (arg10.view.loc (c : Thread nD τ) ↦[arg10.view.set]{fullShare} G10)
      ∗ (∃ f, (arg12.view.loc (c : Thread nD τ) ↦[arg12.view.set]{fullShare} f) ∗ ⌜f = arg12.view.writes (Elt F) G12 (acc5 i arg8 arg10 arg12 v108 v109 X8 G10 G12 k)⌝))
  step k acc := by
    iintro ⟨H8, H10, ⟨%f12, H12, %h12⟩⟩
    subst h12
    unfold k0_t5_body
    sl_exec
    sl_step
    rw [acc5_succ]
    isplitl [H8]; · iexact H8
    isplitl [H10]; · iexact H10
    iexists _; isplitl [H12]; · iexact H12
    ipureintro; rfl

set_option warn.classDefReducibility false in
/-- Its remainder loop, which has no trip. -/
@[sl_loop] def loopInv6 (init : BitVec 32) :
    LoopInvTy_k0_t6 (F := F) Unit ℕ (UR sig nD τ) ℕ 𝒱 c bd E i arg3 harg3 arg4 harg4 arg5 harg5 arg6 harg6 arg7 harg7 arg8 harg8 arg9 harg9 arg10 harg10 arg11 harg11 arg12 harg12 arg1 v1 v3 v108 v109 init where
  inv k _ := iprop(⌜True⌝)
  step k acc := (Nat.not_lt_zero _ (Nat.lt_of_lt_of_eq k.isLt (trips6 i))).elim

end Third

end Args

end Cert.KernelIdeal.Hand
-- ==== Proof.KI.Model.lean ====
module

public import proofs.«01_k».proof.Proof.KI.Loops

/-!
What one grid point computes, as plain recursions over the chunks of keys: the logits of each slot, the column
maximum, the exponentials, their sum, and the accumulator. And that the three loops leave just that in memory.
-/

@[expose] public section

noncomputable section

namespace Cert.KernelIdeal.Hand

open Cert.KernelIdeal Cert.KernelIdeal.Gen
open Idealize.ShloMosaic

variable {F : FTy → Type} [FloatOps F] [Named F]

section Model

variable (v12 : FVec F S1024x128 .fp8e4m3) (v53 : FVec F S1x1024 .f32) (v58 : IVec S256x1024 32)
  (v70 : FVec F S256x1024 .f32) (key val : ℕ → Vec F S1x256x128 .fp8e4m3) (b : ℕ)

/-- The logits of slot `j` for query block `b`: the last slot is `v70`, masked by the diagonal; where the block has
    16 chunks before it the first slot is masked by the window; the others have no mask. -/
def lgt (j : ℕ) : FVec F S256x1024 .f32 :=
  if j = cnt b - 1 then k0_pay8 v70
  else if 16 ≤ b ∧ j = 0 then k0_pay11 v12 v53 v58 (key (lo b))
  else k0_pay14 v12 v53 (key (lo b + j))

/-- The running column maximum before the first loop. -/
def maxInit : FVec F S8x1024 .f32 :=
  if 16 ≤ b then k0_pay12 v12 v53 v58 (key (lo b)) (k0_pay9 v70) else k0_pay9 v70

/-- The running column maximum after `k` trips of the first loop. -/
def maxTo : ℕ → FVec F S8x1024 .f32
  | 0 => maxInit v12 v53 v58 v70 key b
  | k + 1 => k0_pay15 v12 v53 (key (lo b + (fst b + k))) (maxTo k)

/-- The column maximum. -/
def colmax : FVec F S8x1024 .f32 := maxTo v12 v53 v58 v70 key b (cnt b - 1 - fst b)

/-- The exponentials of slot `j`. -/
def expo (j : ℕ) : FVec F S256x1024 .f32 :=
  k0_pay22 (colmax v12 v53 v58 v70 key b) (lgt v12 v53 v58 v70 key b j)

/-- The running sum of exponentials over the first `k` slots. -/
def sumTo : ℕ → FVec F S8x1024 .f32
  | 0 => k0_pay20
  | k + 1 => k0_pay23 (colmax v12 v53 v58 v70 key b) (sumTo k) (lgt v12 v53 v58 v70 key b k)

/-- The sum of exponentials per column. -/
def total : FVec F S1x1024 .f32 := k0_pay27 (sumTo v12 v53 v58 v70 key b (cnt b))

/-- The accumulator over the first `k` slots. -/
def accTo : ℕ → FVec F S128x1024 .f32
  | 0 => k0_pay30
  | k + 1 => k0_pay31 (total v12 v53 v58 v70 key b) k0_pay28 (expo v12 v53 v58 v70 key b k) (val (lo b + k)) (accTo k)

end Model

/-- The whole of the scratch of the running maximum. -/
abbrev readMax (M : Memref sig .tc .vmem S8x1024 .f32) (f : BufTy.Contents (Elt F) M.view.ty) : Vec F S8x1024 .f32 :=
  M.view.readAt (Elt F) (Rect.unit (s := S8x1024) ![0, 0] S8x1024.size inb_S8x1024_S8x1024_0_0).toLoadRect f

/-- The whole of the accumulator. -/
abbrev readAcc (M : Memref sig .tc .vmem S128x1024 .f32) (f : BufTy.Contents (Elt F) M.view.ty) : Vec F S128x1024 .f32 :=
  M.view.readAt (Elt F) (Rect.unit (s := S128x1024) ![0, 0] S128x1024.size inb_S128x1024_S128x1024_0_0).toLoadRect f

/-- The four head groups of a query block, stacked. -/
def queries (M : Memref sig .tc .vmem S1x256x512 .fp8e4m3) (f : BufTy.Contents (Elt F) M.view.ty) : FVec F S1024x128 .fp8e4m3 :=
  k0_pay2
    (M.view.readAt (Elt F) (Rect.unit (s := S1x256x512) ![0, 0, 0] S1x256x128.size inb_S1x256x512_S1x256x128_0_0_0).toLoadRect f)
    (M.view.readAt (Elt F) (Rect.unit (s := S1x256x512) ![0, 0, 128] S1x256x128.size inb_S1x256x512_S1x256x128_0_0_128).toLoadRect f)
    (M.view.readAt (Elt F) (Rect.unit (s := S1x256x512) ![0, 0, 256] S1x256x128.size inb_S1x256x512_S1x256x128_0_0_256).toLoadRect f)
    (M.view.readAt (Elt F) (Rect.unit (s := S1x256x512) ![0, 0, 384] S1x256x128.size inb_S1x256x512_S1x256x128_0_0_384).toLoadRect f)

section Point

variable (q : FVec F S1024x128 .fp8e4m3) (qs ks : ℕ → Elt F .f32) (h b : ℕ) (key val : ℕ → Vec F S1x256x128 .fp8e4m3)

/-- The scale of each column of the logits, for key-value head `h`. -/
def colScale : FVec F S1x1024 .f32 :=
  k0_pay5 (k0_pay3 (qs (h * 4 + 0)) (ks h)) (k0_pay4 (qs (h * 4 + 1)) (ks h)) (qs (h * 4 + 2)) (ks h) (qs (h * 4 + 3)) (ks h)

/-- The logits of the diagonal chunk. -/
def diag : FVec F S256x1024 .f32 :=
  k0_pay7 q (k0_pay3 (qs (h * 4 + 0)) (ks h)) (k0_pay4 (qs (h * 4 + 1)) (ks h)) (qs (h * 4 + 2)) (ks h) (qs (h * 4 + 3)) (ks h) (key b)

/-- The accumulator at the end. -/
def acc : FVec F S128x1024 .f32 :=
  accTo q (colScale qs ks h) k0_pay6 (diag q qs ks h b key) key val b (cnt b)

end Point

section Reads

variable (i : grid0.Coords)
  (arg7 : Memref sig .tc .vmem S1x8192x128 .fp8e4m3) (arg8 : Memref sig .tc .vmem S1x8192x128 .fp8e4m3)
  (arg10 : Memref sig .tc .vmem S4352x1024 .f32) (arg11 : Memref sig .tc .vmem S8x1024 .f32)
  (arg12 : Memref sig .tc .vmem S128x1024 .f32)
  (v12 : FVec F S1024x128 .fp8e4m3) (v53 : FVec F S1x1024 .f32) (v58 : IVec S256x1024 32)
  (v70 : FVec F S256x1024 .f32)
  (X7 : BufTy.Contents (Elt F) arg7.view.ty) (X8 : BufTy.Contents (Elt F) arg8.view.ty)

theorem key1_eq (k : Fin (k0_t1_loop i).trips) :
    key1 i arg7 X7 k = chunk arg7 X7 (lo (i 2).val + (fst (i 2).val + k.val)) := by
  have hk : k.val < cnt (i 2).val - 1 - fst (i 2).val := by
    rw [← trips1]
    exact k.isLt
  exact load_chunk arg7 X7 _ _ (lo_add _ _ (blk_lt i) (by omega)) (off6_eq i k)

/-- The slots after `k` trips of the first loop. -/
theorem slot_logits1 (G : BufTy.Contents (Elt F) arg10.view.ty) (k : ℕ) (hk : k ≤ (k0_t1_loop i).trips) (j : ℕ) (hj : j ≤ 16) :
    slot arg10 (arg10.view.writes (Elt F) G (logits1 i arg7 v12 v53 X7 k)) j
      = if fst (i 2).val ≤ j ∧ j < fst (i 2).val + k then k0_pay14 v12 v53 (chunk arg7 X7 (lo (i 2).val + j))
        else slot arg10 G j := by
  induction k with
  | zero =>
    rw [if_neg (by omega)]
    rfl
  | succ k ih =>
    have hlt := hk
    have hc := cnt_le (i 2).val
    rw [trips1] at hlt
    have e := logits1_succ i arg7 v12 v53 X7 ⟨k, hk⟩
    simp only at e
    rw [e]
    by_cases h : j = fst (i 2).val + k
    · rw [if_pos (by omega), key1_eq, slot_write_same arg10 G _ _ _ j hj (by rw [off7_eq i ⟨k, hk⟩, h]), h]
    · rw [slot_write_other arg10 G _ _ _ (fst (i 2).val + k) j hj (off7_eq i ⟨k, hk⟩) h, ih (by omega)]
      congr 1
      simp only [eq_iff_iff]
      omega

/-- The running maximum after `k` trips of the first loop. -/
theorem readMax_colmax1 (G : BufTy.Contents (Elt F) arg11.view.ty)
    (hG : readMax arg11 G = maxInit v12 v53 v58 v70 (chunk arg7 X7) (i 2).val) (k : ℕ) (hk : k ≤ (k0_t1_loop i).trips) :
    readMax arg11 (arg11.view.writes (Elt F) G (colmax1 i arg7 arg11 v12 v53 X7 G k))
      = maxTo v12 v53 v58 v70 (chunk arg7 X7) (i 2).val k := by
  induction k with
  | zero => exact hG
  | succ k ih =>
    have e := colmax1_succ i arg7 arg11 v12 v53 X7 G ⟨k, hk⟩
    simp only at e
    rw [e]
    unfold readMax
    rw [View.readAt_writes_full]
    have := ih (by omega)
    unfold readMax at this
    rw [this, key1_eq]
    rfl

/-- The slots after `k` trips of the second loop. -/
theorem slot_exps3 (v96 : Vec F S8x1024 .f32) (G : BufTy.Contents (Elt F) arg10.view.ty) (k : ℕ)
    (hk : k ≤ (k0_t3_loop i).trips) (j : ℕ) (hj : j ≤ 16) :
    slot arg10 (arg10.view.writes (Elt F) G (exps3 i arg10 v96 G k)) j
      = if j < k then k0_pay22 v96 (slot arg10 G j) else slot arg10 G j := by
  induction k generalizing j with
  | zero =>
    rw [if_neg (by omega)]
    rfl
  | succ k ih =>
    have hlt := hk
    have hc := cnt_le (i 2).val
    rw [trips3] at hlt
    have e := exps3_succ i arg10 v96 G ⟨k, hk⟩
    simp only at e
    rw [e]
    by_cases h : j = k
    · subst h
      rw [if_pos (by omega), slot_write_same arg10 G _ _ _ j hj (by rw [off10_eq]),
        load_slot arg10 _ _ j hj (by rw [off10_eq]), ih (by omega) j hj, if_neg (by omega)]
    · rw [slot_write_other arg10 G _ _ _ k j hj (off10_eq i ⟨k, hk⟩) h, ih (by omega) j hj]
      congr 1
      simp only [eq_iff_iff]
      omega

/-- The running sum after `k` trips of the second loop, where the slots held the logits before it. -/
theorem sum3_eq (key : ℕ → Vec F S1x256x128 .fp8e4m3) (G : BufTy.Contents (Elt F) arg10.view.ty)
    (hG : ∀ j, j < cnt (i 2).val → slot arg10 G j = lgt v12 v53 v58 v70 key (i 2).val j)
    (k : ℕ) (hk : k ≤ (k0_t3_loop i).trips) :
    sum3 i arg10 (colmax v12 v53 v58 v70 key (i 2).val) G k0_pay20 k = sumTo v12 v53 v58 v70 key (i 2).val k := by
  induction k with
  | zero => rfl
  | succ k ih =>
    have hlt := hk
    have hc := cnt_le (i 2).val
    rw [trips3] at hlt
    have e := sum3_succ i arg10 (colmax v12 v53 v58 v70 key (i 2).val) G k0_pay20 ⟨k, hk⟩
    simp only at e
    rw [e, ih (by omega), load_slot arg10 _ _ k (by omega) (by rw [off10_eq]), slot_exps3 _ _ _ _ _ (by omega) _ (by omega),
      if_neg (by omega), hG k (by omega)]
    rfl

/-- The accumulator after `k` trips of the third loop, where the slots held the exponentials before it. -/
theorem readAcc_acc5 (key : ℕ → Vec F S1x256x128 .fp8e4m3) (G10 : BufTy.Contents (Elt F) arg10.view.ty)
    (hG10 : ∀ j, j < cnt (i 2).val → slot arg10 G10 j = expo v12 v53 v58 v70 key (i 2).val j)
    (G : BufTy.Contents (Elt F) arg12.view.ty) (hG : readAcc arg12 G = k0_pay30)
    (k : ℕ) (hk : k ≤ (k0_t5_loop i).trips) :
    readAcc arg12 (arg12.view.writes (Elt F) G (acc5 i arg8 arg10 arg12 (total v12 v53 v58 v70 key (i 2).val) k0_pay28 X8 G10 G k))
      = accTo v12 v53 v58 v70 key (chunk arg8 X8) (i 2).val k := by
  induction k with
  | zero => exact hG
  | succ k ih =>
    have hlt := hk
    have hc := cnt_le (i 2).val
    rw [trips5] at hlt
    have e := acc5_succ i arg8 arg10 arg12 (total v12 v53 v58 v70 key (i 2).val) k0_pay28 X8 G10 G ⟨k, hk⟩
    simp only at e
    rw [e]
    have := ih (by omega)
    unfold readAcc at this ⊢
    rw [View.readAt_writes_full, this, load_slot arg10 _ _ k (by omega) (by rw [off12_eq]), hG10 k (by omega),
      load_chunk arg8 X8 _ (lo (i 2).val + k) (lo_add _ _ (blk_lt i) (by omega)) (by rw [off13_eq])]
    rfl

/-- The slots hold the logits after the first loop, -/
theorem slot_after1 (f10 : BufTy.Contents (Elt F) arg10.view.ty) (L : List (View.Piece (Elt F) S4352x1024 .f32))
    (hfirst : 16 ≤ (i 2).val → slot arg10 (arg10.view.writes (Elt F) f10 L) 0 = k0_pay11 v12 v53 v58 (chunk arg7 X7 (lo (i 2).val)))
    (hlast : slot arg10 (arg10.view.writes (Elt F) f10 L) (cnt (i 2).val - 1) = k0_pay8 v70) (j : ℕ) (hj : j < cnt (i 2).val) :
    slot arg10 (arg10.view.writes (Elt F) f10 (logits1 i arg7 v12 v53 X7 (k0_t1_loop i).trips ++ L)) j
      = lgt v12 v53 v58 v70 (chunk arg7 X7) (i 2).val j := by
  have hc := cnt_le (i 2).val
  have hf := fst_le (i 2).val
  rw [View.writes_append, slot_logits1 i arg7 arg10 v12 v53 X7 _ _ le_rfl j (by omega), trips1]
  unfold lgt
  by_cases h1 : j = cnt (i 2).val - 1
  · rw [if_neg (by omega), if_pos h1, h1, hlast]
  · rw [if_neg h1]
    by_cases h2 : 16 ≤ (i 2).val ∧ j = 0
    · rw [if_pos h2, if_neg (by unfold fst; rw [if_pos h2.1]; omega), h2.2, hfirst h2.1]
    · rw [if_neg h2, if_pos]
      unfold fst
      split <;> omega

/-- and the scratch of the running maximum holds the maximum; -/
theorem max_after1 (L : List (View.Piece (Elt F) S8x1024 .f32))
    (hL : readMax arg11 (arg11.view.writes (Elt F) arg11.view.junk L) = maxInit v12 v53 v58 v70 (chunk arg7 X7) (i 2).val) :
    readMax arg11 (arg11.view.writes (Elt F) arg11.view.junk
        (colmax1 i arg7 arg11 v12 v53 X7 (arg11.view.writes (Elt F) arg11.view.junk L) (k0_t1_loop i).trips ++ L))
      = colmax v12 v53 v58 v70 (chunk arg7 X7) (i 2).val := by
  rw [View.writes_append, readMax_colmax1 i arg7 arg11 v12 v53 v58 v70 X7 _ hL _ le_rfl, trips1]
  rfl

/-- after the second loop the slots hold the exponentials. -/
theorem slot_after3 (v96 : Vec F S8x1024 .f32) (hv : v96 = colmax v12 v53 v58 v70 (chunk arg7 X7) (i 2).val)
    (f10 : BufTy.Contents (Elt F) arg10.view.ty) (L : List (View.Piece (Elt F) S4352x1024 .f32))
    (hL : ∀ j, j < cnt (i 2).val → slot arg10 (arg10.view.writes (Elt F) f10 L) j
      = lgt v12 v53 v58 v70 (chunk arg7 X7) (i 2).val j) (j : ℕ) (hj : j < cnt (i 2).val) :
    slot arg10 (arg10.view.writes (Elt F) f10 (exps3 i arg10 v96 (arg10.view.writes (Elt F) f10 L) (k0_t3_loop i).trips ++ L)) j
      = expo v12 v53 v58 v70 (chunk arg7 X7) (i 2).val j := by
  have hc := cnt_le (i 2).val
  rw [View.writes_append, slot_exps3 i arg10 _ _ _ le_rfl j (by omega), if_pos (by rw [trips3]; exact hj), hL j hj, hv]
  rfl

/-- And the sum of the second loop is the total. -/
theorem total_after3 (v96 : Vec F S8x1024 .f32) (hv : v96 = colmax v12 v53 v58 v70 (chunk arg7 X7) (i 2).val)
    (G : BufTy.Contents (Elt F) arg10.view.ty)
    (hG : ∀ j, j < cnt (i 2).val → slot arg10 G j = lgt v12 v53 v58 v70 (chunk arg7 X7) (i 2).val j) :
    k0_pay27 (sum3 i arg10 v96 G k0_pay20 (k0_t3_loop i).trips) = total v12 v53 v58 v70 (chunk arg7 X7) (i 2).val := by
  rw [hv, sum3_eq i arg10 v12 v53 v58 v70 _ G hG _ le_rfl, trips3]
  rfl

/-- The accumulator after the third loop. -/
theorem acc_after5 (key : ℕ → Vec F S1x256x128 .fp8e4m3) (G10 : BufTy.Contents (Elt F) arg10.view.ty)
    (hG10 : ∀ j, j < cnt (i 2).val → slot arg10 G10 j = expo v12 v53 v58 v70 key (i 2).val j)
    (L : List (View.Piece (Elt F) S128x1024 .f32)) (hL : readAcc arg12 (arg12.view.writes (Elt F) arg12.view.junk L) = k0_pay30) :
    readAcc arg12 (arg12.view.writes (Elt F) arg12.view.junk
        (acc5 i arg8 arg10 arg12 (total v12 v53 v58 v70 key (i 2).val) k0_pay28 X8 G10 (arg12.view.writes (Elt F) arg12.view.junk L)
          (k0_t5_loop i).trips ++ L))
      = accTo v12 v53 v58 v70 key (chunk arg8 X8) (i 2).val (cnt (i 2).val) := by
  rw [View.writes_append, readAcc_acc5 i arg8 arg10 arg12 v12 v53 v58 v70 X8 key G10 hG10 _ hL _ le_rfl, trips5]

end Reads

end Cert.KernelIdeal.Hand
-- ==== Proof.KI.Body.lean ====
module

public import proofs.«01_k».proof.Proof.KI.Model

/-!
The body of the kernel, run part by part: the reads and the straight code before the loops, the loops by their
invariants, and the four stores of the output.
-/

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

variable (𝒱 : Variants) (c : Dev nD) (bd : Option 𝒱.V) (E : Set ℕ) (i : grid0.Coords)
  (arg3 : Memref sig .tc .smem S8 .f32) (harg3 : arg3.IsWhole) (arg4 : Memref sig .tc .smem S2 .f32)
  (harg4 : arg4.IsWhole) (arg5 : Memref sig .tc .smem S2 .f32) (harg5 : arg5.IsWhole)
  (arg6 : Memref sig .tc .vmem S1x256x512 .fp8e4m3) (harg6 : arg6.IsWhole)
  (arg7 : Memref sig .tc .vmem S1x8192x128 .fp8e4m3) (harg7 : arg7.IsWhole)
  (arg8 : Memref sig .tc .vmem S1x8192x128 .fp8e4m3) (harg8 : arg8.IsWhole)
  (arg9 : Memref sig .tc .vmem S1x256x512 .bf16) (harg9 : arg9.IsWhole)
  (arg10 : Memref sig .tc .vmem S4352x1024 .f32) (harg10 : arg10.IsWhole)
  (arg11 : Memref sig .tc .vmem S8x1024 .f32) (harg11 : arg11.IsWhole)
  (arg12 : Memref sig .tc .vmem S128x1024 .f32) (harg12 : arg12.IsWhole)

/-- The first part returns the stacked queries and the scales of the first two head groups. -/
theorem part1_run (X3 : BufTy.Contents (Elt F) arg3.view.ty) (X4 : BufTy.Contents (Elt F) arg4.view.ty)
    (X6 : BufTy.Contents (Elt F) arg6.view.ty) :
    (iprop((arg3.view.loc (c : Thread nD τ) ↦[arg3.view.set]{fullShare} X3)
      ∗ (arg4.view.loc (c : Thread nD τ) ↦[arg4.view.set]{fullShare} X4)
      ∗ (arg6.view.loc (c : Thread nD τ) ↦[arg6.view.set]{fullShare} X6)) : sProp 𝕄)
    ⊢ wp frame (wpE (defs₀ (F := F)) 𝒱 (c : Thread nD τ) bd) E (k0_part1 (F := F) i arg3 harg3 arg4 harg4 arg5 harg5 arg6 harg6 arg7 harg7 arg8 harg8 arg9 harg9 arg10 harg10 arg11 harg11 arg12 harg12)
      (fun r => iprop((arg3.view.loc (c : Thread nD τ) ↦[arg3.view.set]{fullShare} X3)
        ∗ (arg4.view.loc (c : Thread nD τ) ↦[arg4.view.set]{fullShare} X4)
        ∗ (arg6.view.loc (c : Thread nD τ) ↦[arg6.view.set]{fullShare} X6)
        ∗ ⌜r.2.2.2.2.1 = queries arg6 X6⌝
        ∗ ⌜r.2.2.2.2.2.1 = k0_pay3 (scal8 arg3 X3 ((i 1).val * 4 + 0)) (scal2 arg4 X4 (i 1).val)⌝
        ∗ ⌜r.2.2.2.2.2.2.1 = k0_pay4 (scal8 arg3 X3 ((i 1).val * 4 + 1)) (scal2 arg4 X4 (i 1).val)⌝)) := by
  have h2 : (i 1).val < 2 := (i 1).isLt
  iintro ⟨H3, H4, H6⟩
  rw [k0_part1_eq_skeleton]
  unfold k0_part1_skel
  sl_exec
  unfold part1_run.sl.r part1_run.sl.r_1 part1_run.sl.r_2
  rw [load_scal8 arg3 X3 (off := k0_off1 i 0#32) _ ((i 1).val * 4 + 0) (by omega) (off1_eq i 0), load_scal8 arg3 X3 (off := k0_off1 i 1#32) _ ((i 1).val * 4 + 1) (by omega) (off1_eq i 1),
    load_scal2 arg4 X4 _ (i 1).val (by omega) (off2_eq i)]
  sl_step
  isplitl [H3]
  · iexact H3
  isplitl [H4]
  · iexact H4
  isplitl [H6]
  · iexact H6
  isplitr
  · ipureintro
    rfl
  isplitr
  · ipureintro
    rfl
  · ipureintro
    rfl

/-- The second part returns the column scales, the relative positions and the logits of the diagonal chunk. -/
theorem part2_run (arg1 arg2 v3 c4 : BitVec 32) (v12 : FVec F S1024x128 .fp8e4m3) (v22 v32 : FVec F S1x256 .f32)
    (X3 : BufTy.Contents (Elt F) arg3.view.ty) (X4 : BufTy.Contents (Elt F) arg4.view.ty)
    (X7 : BufTy.Contents (Elt F) arg7.view.ty) (f10 : BufTy.Contents (Elt F) arg10.view.ty)
    (e22 : v22 = k0_pay3 (scal8 arg3 X3 ((i 1).val * 4 + 0)) (scal2 arg4 X4 (i 1).val))
    (e32 : v32 = k0_pay4 (scal8 arg3 X3 ((i 1).val * 4 + 1)) (scal2 arg4 X4 (i 1).val)) :
    (iprop((arg3.view.loc (c : Thread nD τ) ↦[arg3.view.set]{fullShare} X3)
      ∗ (arg4.view.loc (c : Thread nD τ) ↦[arg4.view.set]{fullShare} X4)
      ∗ (arg7.view.loc (c : Thread nD τ) ↦[arg7.view.set]{fullShare} X7)
      ∗ (arg10.view.loc (c : Thread nD τ) ↦[arg10.view.set]{fullShare} f10)) : sProp 𝕄)
    ⊢ wp frame (wpE (defs₀ (F := F)) 𝒱 (c : Thread nD τ) bd) E (k0_part2 (F := F) i arg3 harg3 arg4 harg4 arg5 harg5 arg6 harg6 arg7 harg7 arg8 harg8 arg9 harg9 arg10 harg10 arg11 harg11 arg12 harg12 arg1 arg2 v3 v12 v22 v32 c4)
      (fun r => iprop((arg3.view.loc (c : Thread nD τ) ↦[arg3.view.set]{fullShare} X3)
        ∗ (arg4.view.loc (c : Thread nD τ) ↦[arg4.view.set]{fullShare} X4)
        ∗ (arg7.view.loc (c : Thread nD τ) ↦[arg7.view.set]{fullShare} X7)
        ∗ (arg10.view.loc (c : Thread nD τ) ↦[arg10.view.set]{fullShare} f10)
        ∗ ⌜r.1 = colScale (scal8 arg3 X3) (scal2 arg4 X4) (i 1).val⌝
        ∗ ⌜r.2.1 = k0_pay6⌝
        ∗ ⌜r.2.2.1 = diag v12 (scal8 arg3 X3) (scal2 arg4 X4) (i 1).val (i 2).val (chunk arg7 X7)⌝)) := by
  have h2 : (i 1).val < 2 := (i 1).isLt
  have hb := blk_lt i
  iintro ⟨H3, H4, H7, H10⟩
  rw [k0_part2_eq_skeleton]
  unfold k0_part2_skel
  sl_exec
  unfold part2_run.sl.r part2_run.sl.r_1 part2_run.sl.r_2
  rw [load_scal8 arg3 X3 (off := k0_off1 i 2#32) _ ((i 1).val * 4 + 2) (by omega) (off1_eq i 2), load_scal8 arg3 X3 (off := k0_off1 i 3#32) _ ((i 1).val * 4 + 3) (by omega) (off1_eq i 3),
    load_scal2 arg4 X4 _ (i 1).val (by omega) (off2_eq i), load_chunk arg7 X7 _ (i 2).val (by omega) (off3_eq i), e22, e32]
  sl_step
  isplitl [H3]
  · iexact H3
  isplitl [H4]
  · iexact H4
  isplitl [H7]
  · iexact H7
  isplitl [H10]
  · iexact H10
  isplitr
  · ipureintro
    rfl
  isplitr
  · ipureintro
    rfl
  · ipureintro
    rfl

/-- The third part leaves the exponentials in the slots, and returns their sum per column. -/
theorem part3_run (arg2 v1 v3 : BitVec 32)
  (v12 : FVec F S1024x128 .fp8e4m3) (v53 : FVec F S1x1024 .f32) (v58 : IVec S256x1024 32)
  (v70 : FVec F S256x1024 .f32) (v75 : Vec F S256x1024 .f32) (X7 : BufTy.Contents (Elt F) arg7.view.ty)
    (f10 : BufTy.Contents (Elt F) arg10.view.ty) (f11 : BufTy.Contents (Elt F) arg11.view.ty) :
    (iprop((arg7.view.loc (c : Thread nD τ) ↦[arg7.view.set]{fullShare} X7)
      ∗ (arg10.view.loc (c : Thread nD τ) ↦[arg10.view.set]{fullShare} f10)
      ∗ (arg11.view.loc (c : Thread nD τ) ↦[arg11.view.set]{fullShare} f11)) : sProp 𝕄)
    ⊢ wp frame (wpE (defs₀ (F := F)) 𝒱 (c : Thread nD τ) bd) E (k0_part3 (F := F) i arg3 harg3 arg4 harg4 arg5 harg5 arg6 harg6 arg7 harg7 arg8 harg8 arg9 harg9 arg10 harg10 arg11 harg11 arg12 harg12 arg2 v1 v3 v12 v53 v58 v70 v75)
      (fun r => iprop((arg7.view.loc (c : Thread nD τ) ↦[arg7.view.set]{fullShare} X7)
        ∗ (∃ g, (arg10.view.loc (c : Thread nD τ) ↦[arg10.view.set]{fullShare} g)
            ∗ ⌜∀ j, j < cnt (i 2).val → slot arg10 g j = expo v12 v53 v58 v70 (chunk arg7 X7) (i 2).val j⌝)
        ∗ (∃ g, arg11.view.loc (c : Thread nD τ) ↦[arg11.view.set]{fullShare} g)
        ∗ ⌜r.1 = total v12 v53 v58 v70 (chunk arg7 X7) (i 2).val⌝
        ∗ ⌜r.2 = k0_pay28⌝)) := by
  have hb := blk_lt i
  by_cases h1 : k0_cond1 i = 1#1
  · have h16 := (cond1_iff i).1 h1
    have e4 : k0_off4 i = ![4096, 0] := by
      rw [off4_eq]; unfold cnt; congr 1; omega
    letI : ClosedOff (k0_off4 i) := ⟨![4096, 0], e4⟩
    iintro ⟨H7, H10, H11⟩
    rw [k0_part3_eq_skeleton]
    unfold k0_part3_skel
    sl_exec
    have hL := slot_after1 i arg7 arg10 v12 v53 v58 v70 X7 f10
      [⟨Rect.unit (s := S4352x1024) ![0, 0] S256x1024.size inb_S4352x1024_S256x1024_0_0,
          k0_pay11 v12 v53 v58 (arg7.view.readAt (Elt F) (Rect.unit (s := S1x8192x128) (k0_off5 i) S1x256x128.size (k0_off5_inb i h1)).toLoadRect X7)⟩,
        ⟨Rect.unit (s := S4352x1024) (k0_off4 i) S256x1024.size (k0_off4_inb i), k0_pay8 v70⟩]
      (fun _ => by
        rw [slot_write_same arg10 f10 _ _ _ 0 (by omega) rfl, load_chunk arg7 X7 _ (lo (i 2).val) (by unfold lo; omega) (off5_eq i)])
      (by
        rw [slot_write_other arg10 f10 _ _ _ 0 _ (by have := cnt_le (i 2).val; omega) rfl (by unfold cnt; omega),
          slot_write_same arg10 f10 _ _ _ _ (by have := cnt_le (i 2).val; omega) (off4_eq i)])
    have hM := max_after1 i arg7 arg11 v12 v53 v58 v70 X7
      [⟨Rect.unit (s := S8x1024) ![0, 0] S8x1024.size inb_S8x1024_S8x1024_0_0,
          k0_pay12 v12 v53 v58 (arg7.view.readAt (Elt F) (Rect.unit (s := S1x8192x128) (k0_off5 i) S1x256x128.size (k0_off5_inb i h1)).toLoadRect X7)
            (k0_pay9 v70)⟩, ⟨Rect.unit (s := S8x1024) ![0, 0] S8x1024.size inb_S8x1024_S8x1024_0_0, k0_pay9 v70⟩]
      (by
        unfold readMax
        rw [View.readAt_writes_full, load_chunk arg7 X7 _ (lo (i 2).val) (by unfold lo; omega) (off5_eq i)]
        unfold maxInit
        rw [if_pos h16])
    have h167 : part3_run.sl.v167 arg11 v70 = k0_pay9 v70 := by
      unfold part3_run.sl.v167 part3_run.sl.H11_1 View.readCov
      exact View.readAt_writes_full ..
    unfold part3_run.sl.v96 part3_run.sl.H11_2 part3_run.sl.H11_1
    rw [h167]
    sl_step
    isplitl [H7]
    · iexact H7
    isplitl [H10]
    · iexists _
      isplitl [H10]
      · iexact H10
      · ipureintro
        exact slot_after3 i arg7 arg10 v12 v53 v58 v70 X7 _ hM f10 _ hL
    isplitl [H11]
    · iexists _
      iexact H11
    isplitr
    · ipureintro
      exact total_after3 i arg7 arg10 v12 v53 v58 v70 X7 _ hM _ hL
    · ipureintro
      rfl
  · have h16 : ¬ 16 ≤ (i 2).val := fun h => h1 ((cond1_iff i).2 h)
    have e4 : k0_off4 i = ![(i 2).val * 256, 0] := by
      rw [off4_eq]; unfold cnt; congr 1; omega
    letI : ClosedOff (k0_off4 i) := ⟨![(i 2).val * 256, 0], e4⟩
    iintro ⟨H7, H10, H11⟩
    rw [k0_part3_eq_skeleton]
    unfold k0_part3_skel
    sl_exec
    have hL := slot_after1 i arg7 arg10 v12 v53 v58 v70 X7 f10
      [⟨Rect.unit (s := S4352x1024) (k0_off4 i) S256x1024.size (k0_off4_inb i), k0_pay8 v70⟩]
      (fun h => absurd h h16)
      (by rw [slot_write_same arg10 f10 _ _ _ _ (by have := cnt_le (i 2).val; omega) (off4_eq i)])
    have hM := max_after1 i arg7 arg11 v12 v53 v58 v70 X7
      [⟨Rect.unit (s := S8x1024) ![0, 0] S8x1024.size inb_S8x1024_S8x1024_0_0, k0_pay9 v70⟩]
      (by
        unfold readMax
        rw [View.readAt_writes_full]
        unfold maxInit
        rw [if_neg h16])
    unfold part3_run.sl.v96_1 part3_run.sl.H11_1_1
    sl_step
    isplitl [H7]
    · iexact H7
    isplitl [H10]
    · iexists _
      isplitl [H10]
      · iexact H10
      · ipureintro
        exact slot_after3 i arg7 arg10 v12 v53 v58 v70 X7 _ hM f10 _ hL
    isplitl [H11]
    · iexists _
      iexact H11
    isplitr
    · ipureintro
      exact total_after3 i arg7 arg10 v12 v53 v58 v70 X7 _ hM _ hL
    · ipureintro
      rfl

/-- The same over values known to be equal to its operands. -/
theorem part3_restated (arg2 v1 v3 : BitVec 32)
  (v12 : FVec F S1024x128 .fp8e4m3) (v53 : FVec F S1x1024 .f32) (v58 : IVec S256x1024 32)
  (v70 : FVec F S256x1024 .f32) (v75 : Vec F S256x1024 .f32) (X7 : BufTy.Contents (Elt F) arg7.view.ty)
    (f10 : BufTy.Contents (Elt F) arg10.view.ty) (f11 : BufTy.Contents (Elt F) arg11.view.ty)
    (w12 : FVec F S1024x128 .fp8e4m3) (w53 : FVec F S1x1024 .f32) (w58 : IVec S256x1024 32) (w70 : FVec F S256x1024 .f32)
    (e12 : v12 = w12) (e53 : v53 = w53) (e58 : v58 = w58) (e70 : v70 = w70) :
    (iprop((arg7.view.loc (c : Thread nD τ) ↦[arg7.view.set]{fullShare} X7)
      ∗ (arg10.view.loc (c : Thread nD τ) ↦[arg10.view.set]{fullShare} f10)
      ∗ (arg11.view.loc (c : Thread nD τ) ↦[arg11.view.set]{fullShare} f11)) : sProp 𝕄)
    ⊢ wp frame (wpE (defs₀ (F := F)) 𝒱 (c : Thread nD τ) bd) E (k0_part3 (F := F) i arg3 harg3 arg4 harg4 arg5 harg5 arg6 harg6 arg7 harg7 arg8 harg8 arg9 harg9 arg10 harg10 arg11 harg11 arg12 harg12 arg2 v1 v3 v12 v53 v58 v70 v75)
      (fun r => iprop((arg7.view.loc (c : Thread nD τ) ↦[arg7.view.set]{fullShare} X7)
        ∗ (∃ g, (arg10.view.loc (c : Thread nD τ) ↦[arg10.view.set]{fullShare} g)
            ∗ ⌜∀ j, j < cnt (i 2).val → slot arg10 g j = expo w12 w53 w58 w70 (chunk arg7 X7) (i 2).val j⌝)
        ∗ (∃ g, arg11.view.loc (c : Thread nD τ) ↦[arg11.view.set]{fullShare} g)
        ∗ ⌜r.1 = total w12 w53 w58 w70 (chunk arg7 X7) (i 2).val⌝
        ∗ ⌜r.2 = k0_pay28⌝)) := by
  subst e12 e53 e58 e70
  exact part3_run 𝒱 c bd E i arg3 harg3 arg4 harg4 arg5 harg5 arg6 harg6 arg7 harg7 arg8 harg8 arg9 harg9 arg10 harg10 arg11 harg11 arg12 harg12 arg2 v1 v3 v12 v53 v58 v70 v75 X7 f10 f11

/-- The fourth part leaves three head groups of the output and returns the scaled accumulator. -/
theorem part4_run (arg1 v1 v3 : BitVec 32) (v12 : FVec F S1024x128 .fp8e4m3) (v53 : FVec F S1x1024 .f32)
    (v58 : IVec S256x1024 32) (v70 : FVec F S256x1024 .f32) (key : ℕ → Vec F S1x256x128 .fp8e4m3) (v108 v109 : FVec F S1x1024 .f32)
    (X5 : BufTy.Contents (Elt F) arg5.view.ty) (X8 : BufTy.Contents (Elt F) arg8.view.ty) (f9 : BufTy.Contents (Elt F) arg9.view.ty)
    (f10 : BufTy.Contents (Elt F) arg10.view.ty) (f12 : BufTy.Contents (Elt F) arg12.view.ty)
    (e108 : v108 = total v12 v53 v58 v70 key (i 2).val) (e109 : v109 = k0_pay28)
    (hf10 : ∀ j, j < cnt (i 2).val → slot arg10 f10 j = expo v12 v53 v58 v70 key (i 2).val j) :
    (iprop((arg5.view.loc (c : Thread nD τ) ↦[arg5.view.set]{fullShare} X5)
      ∗ (arg8.view.loc (c : Thread nD τ) ↦[arg8.view.set]{fullShare} X8)
      ∗ (arg9.view.loc (c : Thread nD τ) ↦[arg9.view.set]{fullShare} f9)
      ∗ (arg10.view.loc (c : Thread nD τ) ↦[arg10.view.set]{fullShare} f10)
      ∗ (arg12.view.loc (c : Thread nD τ) ↦[arg12.view.set]{fullShare} f12)) : sProp 𝕄)
    ⊢ wp frame (wpE (defs₀ (F := F)) 𝒱 (c : Thread nD τ) bd) E (k0_part4 (F := F) i arg3 harg3 arg4 harg4 arg5 harg5 arg6 harg6 arg7 harg7 arg8 harg8 arg9 harg9 arg10 harg10 arg11 harg11 arg12 harg12 arg1 v1 v3 v108 v109)
      (fun r => iprop((arg5.view.loc (c : Thread nD τ) ↦[arg5.view.set]{fullShare} X5)
        ∗ (arg8.view.loc (c : Thread nD τ) ↦[arg8.view.set]{fullShare} X8)
        ∗ (arg9.view.loc (c : Thread nD τ) ↦[arg9.view.set]{fullShare} arg9.view.writes (Elt F) f9
            [⟨Rect.unit (s := S1x256x512) ![0, 0, 256] S1x256x128.size inb_S1x256x512_S1x256x128_0_0_256,
                k0_pay36 (accTo v12 v53 v58 v70 key (chunk arg8 X8) (i 2).val (cnt (i 2).val)) (scal2 arg5 X5 (i 1).val)⟩,
              ⟨Rect.unit (s := S1x256x512) ![0, 0, 128] S1x256x128.size inb_S1x256x512_S1x256x128_0_0_128,
                k0_pay35 (accTo v12 v53 v58 v70 key (chunk arg8 X8) (i 2).val (cnt (i 2).val)) (scal2 arg5 X5 (i 1).val)⟩,
              ⟨Rect.unit (s := S1x256x512) ![0, 0, 0] S1x256x128.size inb_S1x256x512_S1x256x128_0_0_0,
                k0_pay34 (accTo v12 v53 v58 v70 key (chunk arg8 X8) (i 2).val (cnt (i 2).val)) (scal2 arg5 X5 (i 1).val)⟩])
        ∗ (arg10.view.loc (c : Thread nD τ) ↦[arg10.view.set]{fullShare} f10)
        ∗ (∃ g, arg12.view.loc (c : Thread nD τ) ↦[arg12.view.set]{fullShare} g)
        ∗ ⌜r = k0_pay33 (accTo v12 v53 v58 v70 key (chunk arg8 X8) (i 2).val (cnt (i 2).val)) (scal2 arg5 X5 (i 1).val)⌝)) := by
  have h2 : (i 1).val < 2 := (i 1).isLt
  iintro ⟨H5, H8, H9, H10, H12⟩
  rw [k0_part4_eq_skeleton]
  unfold k0_part4_skel
  sl_exec
  have hA := acc_after5 i arg8 arg10 arg12 v12 v53 v58 v70 X8 key f10 hf10
    [⟨Rect.unit (s := S128x1024) ![0, 0] S128x1024.size inb_S128x1024_S128x1024_0_0, k0_pay30⟩]
    (by
      unfold readAcc
      rw [View.readAt_writes_full])
  have h122 : part4_run.sl.v122 i arg8 arg10 arg12 v108 v109 X8 f10
      = accTo v12 v53 v58 v70 key (chunk arg8 X8) (i 2).val (cnt (i 2).val) := by
    rw [← hA, e108, e109]
    unfold part4_run.sl.v122 part4_run.sl.H12_1
    rfl
  rw [h122]
  unfold part4_run.sl.r
  rw [load_scal2 arg5 X5 _ (i 1).val (by omega) (off2_eq i)]
  sl_step
  isplitl [H5]
  · iexact H5
  isplitl [H8]
  · iexact H8
  isplitl [H9]
  · iexact H9
  isplitl [H10]
  · iexact H10
  isplitl [H12]
  · iexists _
    iexact H12
  · ipureintro
    rfl

/-- The kernel function at one grid point: it leaves its operands as they were and writes the four head groups of its
    output block; its scratch may hold anything before and after. -/
theorem body_run (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (f9 : BufTy.Contents (Elt F) arg9.view.ty) (f10 : BufTy.Contents (Elt F) arg10.view.ty)
    (f11 : BufTy.Contents (Elt F) arg11.view.ty) (f12 : BufTy.Contents (Elt F) arg12.view.ty) :
    (iprop((arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (arg8.view.loc (c : Thread nD τ) ↦[arg8.view.set]{fullShare} X8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)) : sProp 𝕄)
    ⊢ wp frame (wpE (defs₀ (F := F)) 𝒱 (c : Thread nD τ) bd) E (cc0_fp8_swa_gqa (F := F) i arg3 harg3 arg4 harg4 arg5 harg5 arg6 harg6 arg7 harg7 arg8 harg8 arg9 harg9 arg10 harg10 arg11 harg11 arg12 harg12)
      (fun _ => iprop((arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} X7)
        ∗ (arg8.view.loc (c : Thread nD τ) ↦[arg8.view.set]{fullShare} X8)
        ∗ (arg9.view.loc (c : Thread nD τ) ↦[arg9.view.set]{fullShare} arg9.view.writes (Elt F) f9
            [⟨Rect.unit (s := S1x256x512) ![0, 0, 384] S1x256x128.size inb_S1x256x512_S1x256x128_0_0_384,
                k0_pay1 (k0_pay33 (acc (queries arg6 X6) (scal8 arg3 X3) (scal2 arg4 X4) (i 1).val (i 2).val (chunk arg7 X7) (chunk arg8 X8)) (scal2 arg5 X5 (i 1).val))⟩,
              ⟨Rect.unit (s := S1x256x512) ![0, 0, 256] S1x256x128.size inb_S1x256x512_S1x256x128_0_0_256,
                k0_pay36 (acc (queries arg6 X6) (scal8 arg3 X3) (scal2 arg4 X4) (i 1).val (i 2).val (chunk arg7 X7) (chunk arg8 X8)) (scal2 arg5 X5 (i 1).val)⟩,
              ⟨Rect.unit (s := S1x256x512) ![0, 0, 128] S1x256x128.size inb_S1x256x512_S1x256x128_0_0_128,
                k0_pay35 (acc (queries arg6 X6) (scal8 arg3 X3) (scal2 arg4 X4) (i 1).val (i 2).val (chunk arg7 X7) (chunk arg8 X8)) (scal2 arg5 X5 (i 1).val)⟩,
              ⟨Rect.unit (s := S1x256x512) ![0, 0, 0] S1x256x128.size inb_S1x256x512_S1x256x128_0_0_0,
                k0_pay34 (acc (queries arg6 X6) (scal8 arg3 X3) (scal2 arg4 X4) (i 1).val (i 2).val (chunk arg7 X7) (chunk arg8 X8)) (scal2 arg5 X5 (i 1).val)⟩])
        ∗ (∃ g, arg10.view.loc (c : Thread nD τ) ↦[arg10.view.set]{fullShare} g)
        ∗ (∃ g, arg11.view.loc (c : Thread nD τ) ↦[arg11.view.set]{fullShare} g)
        ∗ (∃ g, arg12.view.loc (c : Thread nD τ) ↦[arg12.view.set]{fullShare} g))) := by
  have h1 := part1_run (F := F) 𝒱 c bd E i arg3 harg3 arg4 harg4 arg5 harg5 arg6 harg6 arg7 harg7 arg8 harg8 arg9 harg9 arg10 harg10 arg11 harg11 arg12 harg12 X3 X4 X6
  have h2 := fun arg1 arg2 v3 c4 (v12 : FVec F S1024x128 .fp8e4m3) (v22 v32 : FVec F S1x256 .f32) (f10 : BufTy.Contents (Elt F) arg10.view.ty) => part2_run (F := F) 𝒱 c bd E i arg3 harg3 arg4 harg4 arg5 harg5 arg6 harg6 arg7 harg7 arg8 harg8 arg9 harg9 arg10 harg10 arg11 harg11 arg12 harg12 arg1 arg2 v3 c4 v12 v22 v32 X3 X4 X7 f10
  have h3 := fun arg2 v1 v3 v12 v53 v58 v70 v75 f10 f11 (e12 : v12 = queries arg6 X6)
      (e53 : v53 = colScale (scal8 arg3 X3) (scal2 arg4 X4) (i 1).val) (e58 : v58 = k0_pay6)
      (e70 : v70 = diag v12 (scal8 arg3 X3) (scal2 arg4 X4) (i 1).val (i 2).val (chunk arg7 X7)) =>
    part3_restated (F := F) 𝒱 c bd E i arg3 harg3 arg4 harg4 arg5 harg5 arg6 harg6 arg7 harg7 arg8 harg8 arg9 harg9 arg10 harg10 arg11 harg11 arg12 harg12 arg2 v1 v3 v12 v53 v58 v70 v75 X7 f10 f11
      (queries arg6 X6) (colScale (scal8 arg3 X3) (scal2 arg4 X4) (i 1).val) k0_pay6
      (diag (queries arg6 X6) (scal8 arg3 X3) (scal2 arg4 X4) (i 1).val (i 2).val (chunk arg7 X7))
      e12 e53 e58 (e12 ▸ e70)
  have h4 := fun arg1 v1 v3 => part4_run (F := F) 𝒱 c bd E i arg3 harg3 arg4 harg4 arg5 harg5 arg6 harg6 arg7 harg7 arg8 harg8 arg9 harg9 arg10 harg10 arg11 harg11 arg12 harg12 arg1 v1 v3
    (queries arg6 X6) (colScale (scal8 arg3 X3) (scal2 arg4 X4) (i 1).val) k0_pay6
    (diag (queries arg6 X6) (scal8 arg3 X3) (scal2 arg4 X4) (i 1).val (i 2).val (chunk arg7 X7)) (chunk arg7 X7)
  iintro ⟨H3, H4, H5, H6, H7, H8, H9, H10, H11, H12⟩
  rw [cc0_fp8_swa_gqa_eq_skeleton]
  unfold cc0_fp8_swa_gqa_skel
  sl_exec
  subst hk0_part4_5
  unfold acc
  sl_step
  isplitl [Hk0_part2_0]
  · iexact Hk0_part2_0
  isplitl [Hk0_part2_1]
  · iexact Hk0_part2_1
  isplitl [Hk0_part4_0]
  · iexact Hk0_part4_0
  isplitl [Hk0_part1_2]
  · iexact Hk0_part1_2
  isplitl [Hk0_part3_0]
  · iexact Hk0_part3_0
  isplitl [Hk0_part4_1]
  · iexact Hk0_part4_1
  isplitl [Hk0_part4_2]
  · iexact Hk0_part4_2
  isplitl [Hk0_part4_3]
  · iexists _
    iexact Hk0_part4_3
  isplitl [Hk0_part3_3]
  · iexists _
    iexact Hk0_part3_3
  · iexists _
    iexact Hk0_part4_4

end Cert.KernelIdeal.Hand
-- ==== Proof.KI.Run.lean ====
module

public import proofs.«01_k».proof.Proof.KI.Body
public import proofs.«01_k».proof.Proof.Gen.KernelIdeal.Frame
public import proofs.«01_k».proof.Proof.Gen.KernelIdeal.Points
public import Idealize.ShloMosaic.Lib.Pipeline.FrameBody
public import Idealize.ShloMosaic.Lib.Claim

/-!
One launch of the kernel: what a grid point leaves in its output block, and the run over the whole grid.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

/-! ## What one grid point computes, from the blocks of its windows -/

/-- Chunk `j` of a block of keys or values. -/
def chunkOf (x : Vec F S1x8192x128 .fp8e4m3) (j : ℕ) : Vec F S1x256x128 .fp8e4m3 :=
  View.ld x (Rect.unit (s := S1x8192x128) ![0, min j 31 * 256, 0] S1x256x128.size (chunk_inb j))

/-- The scale of query head `n`. -/
def scalOf8 (x : Vec F S8 .f32) (n : ℕ) : Elt F .f32 :=
  View.ld x (Rect.unit (s := S8) ![min n 7] S1.size (scal_inb8 n)) (Shape.Idx.first (show 0 < S1.numel by decide))

/-- The scale of key-value head `n`. -/
def scalOf2 (x : Vec F S2 .f32) (n : ℕ) : Elt F .f32 :=
  View.ld x (Rect.unit (s := S2) ![min n 1] S1.size (scal_inb2 n)) (Shape.Idx.first (show 0 < S1.numel by decide))

abbrev lane0 : Rect S1x256x512 := Rect.unit (s := S1x256x512) ![0, 0, 0] S1x256x128.size inb_S1x256x512_S1x256x128_0_0_0
abbrev lane1 : Rect S1x256x512 := Rect.unit (s := S1x256x512) ![0, 0, 128] S1x256x128.size inb_S1x256x512_S1x256x128_0_0_128
abbrev lane2 : Rect S1x256x512 := Rect.unit (s := S1x256x512) ![0, 0, 256] S1x256x128.size inb_S1x256x512_S1x256x128_0_0_256
abbrev lane3 : Rect S1x256x512 := Rect.unit (s := S1x256x512) ![0, 0, 384] S1x256x128.size inb_S1x256x512_S1x256x128_0_0_384

/-- The four head groups of a block of queries, stacked. -/
def queriesOf (x : Vec F S1x256x512 .fp8e4m3) : FVec F S1024x128 .fp8e4m3 :=
  k0_pay2 (View.ld x lane0) (View.ld x lane1) (View.ld x lane2) (View.ld x lane3)

/-- The accumulated products of a grid point with key-value head `h` and query block `b`. -/
def accOf (h b : ℕ) (x0 : Vec F S8 .f32) (x1 : Vec F S2 .f32) (x3 : Vec F S1x256x512 .fp8e4m3)
    (x4 x5 : Vec F S1x8192x128 .fp8e4m3) : FVec F S128x1024 .f32 :=
  acc (queriesOf x3) (scalOf8 x0) (scalOf2 x1) h b (chunkOf x4) (chunkOf x5)

/-- What a grid point leaves in its output block: one head group in each quarter of the lanes. -/
def outBlk (h b : ℕ) (x0 : Vec F S8 .f32) (x1 x2 : Vec F S2 .f32) (x3 : Vec F S1x256x512 .fp8e4m3)
    (x4 x5 : Vec F S1x8192x128 .fp8e4m3) : Vec F S1x256x512 .bf16 :=
  View.canon [⟨lane3, k0_pay1 (k0_pay33 (accOf h b x0 x1 x3 x4 x5) (scalOf2 x2 h))⟩,
    ⟨lane2, k0_pay36 (accOf h b x0 x1 x3 x4 x5) (scalOf2 x2 h)⟩,
    ⟨lane1, k0_pay35 (accOf h b x0 x1 x3 x4 x5) (scalOf2 x2 h)⟩,
    ⟨lane0, k0_pay34 (accOf h b x0 x1 x3 x4 x5) (scalOf2 x2 h)⟩]

/-- The four stores fill the block. -/
theorem cover_out (p0 p1 p2 p3 : Vec F S1x256x128 .bf16) (y : S1x256x512.Idx) :
    ∃ pc ∈ ([⟨lane3, p3⟩, ⟨lane2, p2⟩, ⟨lane1, p1⟩, ⟨lane0, p0⟩] : List (View.Piece (Elt F) S1x256x512 .bf16)), y ∈ pc.1.set :=
  View.cover_of_tiled [⟨lane3, p3⟩, ⟨lane2, p2⟩, ⟨lane1, p1⟩, ⟨lane0, p0⟩] S1x256x128.size (by rfl) y

/-! ## The body's triple -/

/-- The body, on whole buffers: it leaves its inputs as they were and the output block at `outBlk` of them. -/
theorem sound_kernel (c : Dev nD) (E : Set ℕ) (i : grid0.Coords)
    (arg3 : Memref sig .tc .smem S8 .f32) (harg3 : arg3.IsWhole) (arg4 : Memref sig .tc .smem S2 .f32)
    (harg4 : arg4.IsWhole) (arg5 : Memref sig .tc .smem S2 .f32) (harg5 : arg5.IsWhole)
    (arg6 : Memref sig .tc .vmem S1x256x512 .fp8e4m3) (harg6 : arg6.IsWhole)
    (arg7 : Memref sig .tc .vmem S1x8192x128 .fp8e4m3) (harg7 : arg7.IsWhole)
    (arg8 : Memref sig .tc .vmem S1x8192x128 .fp8e4m3) (harg8 : arg8.IsWhole)
    (arg9 : Memref sig .tc .vmem S1x256x512 .bf16) (harg9 : arg9.IsWhole)
    (x0 : Vec F S8 .f32) (x1 x2 : Vec F S2 .f32) (x3 : Vec F S1x256x512 .fp8e4m3)
    (x4 x5 : Vec F S1x8192x128 .fp8e4m3) (K : PUnit → sProp 𝕄) :
    iprop(Pipeline.ΦA spec0 c ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
      ∗ (iprop(Pipeline.ΦA spec0 c ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlk (i 1).val (i 2).val x0 x1 x2 x3 x4 x5)) -∗ K ⟨⟩))
      ⊢ wp frame (wpE (defs₀ (F := F)) Variants.none c none) E (cc0_fp8_swa_gqa i arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _)) K := by
  unfold owns Pipeline.ΦA
  rw [scopedRest0_eq]
  iintro ⟨⟨⟨⟨%g0, S0⟩, ⟨%g1, S1⟩, ⟨%g2, S2⟩⟩, HP⟩, ⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  iapply (wp_wand_r frame _ E)
  isplitl [H0 H1 H2 H3 H4 H5 H6 S0 S1 S2]
  · iapply (body_run Variants.none c none E i arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) f0 f1 f2 f3 f4 f5 f6 g0 g1 g2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]
    · rw [show (Memref.whole cc0_scratch0).view.set = Finset.univ from View.set_whole _]; iexact S0
    isplitl [S1]
    · rw [show (Memref.whole cc0_scratch1).view.set = Finset.univ from View.set_whole _]; iexact S1
    rw [show (Memref.whole cc0_scratch2).view.set = Finset.univ from View.set_whole _]; iexact S2
  iintro %_ ⟨H0, H1, H2, H3, H4, H5, H6, ⟨%e0, S0⟩, ⟨%e1, S1⟩, ⟨%e2, S2⟩⟩
  iapply Hk
  isplitl [S0 S1 S2 HP]
  · isplitl [S0 S1 S2]
    · isplitl [S0]
      · iexists e0
        rw [show (Memref.whole cc0_scratch0).view.set = Finset.univ from View.set_whole _]; iexact S0
      isplitl [S1]
      · iexists e1
        rw [show (Memref.whole cc0_scratch1).view.set = Finset.univ from View.set_whole _]; iexact S1
      iexists e2
      rw [show (Memref.whole cc0_scratch2).view.set = Finset.univ from View.set_whole _]; iexact S2
    iexact HP
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _ _ _)

/-! ## The pipeline's proof data -/

variable (m : (ℓ : Loc nD τ sig) → Buf (Elt F) ℓ) (ρ : Dev nD → PrngReg)

/-- After the body at a point each input's buffer holds its block, and the output's holds `outBlk` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t 1).val (grid0.coords t 2).val (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlk (grid0.coords t 1).val (grid0.coords t 2).val (iblk m c 0 t) (iblk m c 1 t) (iblk m c 2 t) (iblk m c 3 t) (iblk m c 4 t) (iblk m c 5 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.castSucc = Pipeline.ΦA spec0 c from rfl,
    show (dats m 0 c).Φ t.succ = Pipeline.ΦA spec0 c from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨HΦ, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch ends with every array at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The launch terminates, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Math.Softmax.lean ====
module

public import Idealize.ShloMosaic.PureOps.Ideal

/-!
Attention of one query over 8192 keys, on the extended reals. Two ways to compute it give one value: over all keys, with
natural exponentials of the logits; or over the chunks of 256 keys that the logits' mask leaves, with powers of two of
the logits times `1 / log 2`. Nothing is assumed of the logits: they may be infinite, and their exponentials may sum to
zero or to infinity.
-/

@[expose] public section

noncomputable section

namespace Cert.Attn

open Idealize.ShloMosaic

/-! ## Constants -/

theorem ofBits_bot : Ideal.ofBits .f32 0xFF800000#32 = ⊥ := by
  simp [Ideal.ofBits, Ideal.ieee]

theorem ofBits_256 : Ideal.ofBits .f32 0x43800000#32 = ((256 : ℝ) : EReal) := by
  simp [Ideal.ofBits, Ideal.ieee, -EReal.coe_mul]; norm_num

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul]; norm_num

/-! ## The definition -/

/-- A probability's code: clamped to the range of the 8-bit format. -/
def clip (p : EReal) : EReal := min ((448 : ℝ) : EReal) (max ((-448 : ℝ) : EReal) p)

/-- The largest of the logits `u`. -/
def top (u : Fin 8192 → EReal) : EReal := Finset.univ.fold max ⊥ u

/-- The sum of the exponentials. -/
def mass (u : Fin 8192 → EReal) : EReal := ∑ t, Ideal.exp (u t - top u)

/-- The values `v` averaged with the softmax of the logits `u`, the probabilities coded as multiples of 1/256. -/
def attend (u v : Fin 8192 → EReal) : EReal :=
  ∑ t, v t * clip (Ideal.exp (u t - top u) * Ideal.div 1 (mass u) * ((256 : ℝ) : EReal))

theorem clip_zero : clip 0 = 0 := by
  unfold clip
  rw [max_eq_right (by exact_mod_cast (by norm_num : (-448 : ℝ) ≤ 0)), min_eq_right (by exact_mod_cast (by norm_num : (0 : ℝ) ≤ 448))]

theorem top_le (u : Fin 8192 → EReal) (x : EReal) : top u ≤ x ↔ ∀ t, u t ≤ x := by
  unfold top
  rw [Finset.fold_max_le]
  simp

/-! ## Scaling by a positive real -/

theorem sub_mul_coe {L : ℝ} (hL : 0 < L) (x y : EReal) : x * (L : EReal) - y * L = (x - y) * L := by
  induction x <;> induction y <;>
    simp [EReal.top_mul_coe_of_pos hL, EReal.bot_mul_coe_of_pos hL, ← EReal.coe_mul, ← EReal.coe_sub, sub_mul]

theorem mul_coe_cancel {L : ℝ} (hL : 0 < L) (x : EReal) : x * ((L⁻¹ : ℝ) : EReal) * (L : EReal) = x := by
  rw [mul_assoc, ← EReal.coe_mul, inv_mul_cancel₀ hL.ne', EReal.coe_one, mul_one]

theorem mul_coe_cancel' {L : ℝ} (hL : 0 < L) (x : EReal) : x * (L : EReal) * ((L⁻¹ : ℝ) : EReal) = x := by
  rw [mul_assoc, ← EReal.coe_mul, mul_inv_cancel₀ hL.ne', EReal.coe_one, mul_one]

theorem mul_coe_le {L : ℝ} (hL : 0 < L) {x y : EReal} (h : x ≤ y) : x * (L : EReal) ≤ y * L :=
  mul_le_mul_of_nonneg_right h (by exact_mod_cast hL.le)

/-- A power of two of a multiple of `1 / log 2` is the natural exponential. -/
theorem exp2_mul (x : EReal) : Ideal.exp2 (x * (((Real.log 2)⁻¹ : ℝ) : EReal)) = Ideal.exp x := by
  have hL : 0 < (Real.log 2)⁻¹ := inv_pos.mpr (Real.log_pos (by norm_num))
  induction x with
  | bot => rw [EReal.bot_mul_coe_of_pos hL]; rfl
  | top => rw [EReal.top_mul_coe_of_pos hL]; rfl
  | coe r =>
    rw [← EReal.coe_mul, Ideal.exp2_coe, Ideal.exp_coe]
    congr 1
    show (2 : ℝ) ^ (r * (Real.log 2)⁻¹) = Real.exp r
    rw [Real.rpow_def_of_pos (by norm_num), mul_comm r, ← mul_assoc, mul_inv_cancel₀ (Real.log_pos (by norm_num)).ne', one_mul]

/-- Dividing 256 by the sum is dividing 1 by it, times 256: whatever the sum is. -/
theorem mul_div_256 (e l : EReal) :
    e * Ideal.div ((256 : ℝ) : EReal) l = e * Ideal.div 1 l * ((256 : ℝ) : EReal) := by
  have h : Ideal.div ((256 : ℝ) : EReal) l = Ideal.div 1 l * ((256 : ℝ) : EReal) := by
    unfold Ideal.div
    split_ifs with h0 h1 h2 h2
    · exact (EReal.top_mul_coe_of_pos (by norm_num)).symm
    · exact absurd one_pos h2
    · exact absurd (by exact_mod_cast (by norm_num : (0 : ℝ) < 256)) h1
    · exact absurd one_pos h2
    · rw [one_mul, mul_comm]
  rw [h, mul_assoc]

theorem exp_bot_sub (m : EReal) : Ideal.exp (⊥ - m) = 0 := by
  rw [sub_eq_add_neg, EReal.bot_add]
  rfl

/-! ## Keys by chunks -/

/-- Key `r` of chunk `c`. -/
def pos (c : ℕ) (r : Fin 256) : Fin 8192 := ⟨min c 31 * 256 + r.val, by omega⟩

/-- A sum over 256 rows, eight at a time. -/
theorem sum_rows {M : Type} [AddCommMonoid M] (f : Fin 256 → M) :
    ∑ r, f r = ∑ q : Fin 8, ∑ i : Fin 32, f ⟨i.val * 8 + q.val, by omega⟩ := by
  rw [Finset.sum_comm, ← Fintype.sum_prod_type', ← (finProdFinEquiv : Fin 32 × Fin 8 ≃ Fin 256).sum_comp]
  refine Finset.sum_congr rfl fun p _ => congrArg f (Fin.ext ?_)
  show p.2.val + 8 * p.1.val = p.1.val * 8 + p.2.val
  omega

/-- A sum over all keys of terms that vanish outside the chunks `lo` to `lo + n - 1`. -/
theorem sum_keys {M : Type} [AddCommMonoid M] (f : Fin 8192 → M) {lo n : ℕ} (hn : lo + n ≤ 32)
    (hf : ∀ t : Fin 8192, t.val / 256 < lo ∨ lo + n ≤ t.val / 256 → f t = 0) :
    ∑ t, f t = ∑ j ∈ Finset.range n, ∑ r : Fin 256, f (pos (lo + j) r) := by
  have h1 : ∑ t, f t = ∑ c : Fin 32, ∑ r : Fin 256, f (pos c.val r) := by
    rw [← Fintype.sum_prod_type', ← (finProdFinEquiv : Fin 32 × Fin 256 ≃ Fin 8192).sum_comp]
    refine Finset.sum_congr rfl fun p _ => congrArg f (Fin.ext ?_)
    show p.2.val + 256 * p.1.val = min p.1.val 31 * 256 + p.2.val
    omega
  rw [h1, Fin.sum_univ_eq_sum_range (fun c => ∑ r : Fin 256, f (pos c r)) 32]
  have h2 : ∑ c ∈ Finset.Ico lo (lo + n), ∑ r : Fin 256, f (pos c r) = ∑ c ∈ Finset.range 32, ∑ r : Fin 256, f (pos c r) := by
    refine Finset.sum_subset (fun c hc => ?_) fun c hc hc' => Finset.sum_eq_zero fun r _ => hf _ ?_
    · rw [Finset.mem_Ico] at hc
      exact Finset.mem_range.mpr (by omega)
    · rw [Finset.mem_range] at hc
      rw [Finset.mem_Ico] at hc'
      show (min c 31 * 256 + r.val) / 256 < lo ∨ lo + n ≤ (min c 31 * 256 + r.val) / 256
      omega
  rw [← h2, Finset.sum_Ico_eq_sum_range, Nat.add_sub_cancel_left]

/-! ## The equation -/

/-- Chunk by chunk, with powers of two, is the same attention. The logits `u` are ⊥ outside the chunks `lo` to
    `lo + n - 1`; `M` is the largest of the scaled logits and `S` the sum of their powers of two. -/
theorem attend_chunks (u v : Fin 8192 → EReal) {lo n : ℕ} (hn : lo + n ≤ 32)
    (hu : ∀ t : Fin 8192, t.val / 256 < lo ∨ lo + n ≤ t.val / 256 → u t = ⊥) (M S : EReal)
    (hM : ∀ x, M ≤ x ↔ ∀ j < n, ∀ r, u (pos (lo + j) r) * (((Real.log 2)⁻¹ : ℝ) : EReal) ≤ x)
    (hS : S = ∑ j ∈ Finset.range n, ∑ r, Ideal.exp2 (u (pos (lo + j) r) * (((Real.log 2)⁻¹ : ℝ) : EReal) - M)) :
    ∑ j ∈ Finset.range n, ∑ r, v (pos (lo + j) r)
        * clip (Ideal.exp2 (u (pos (lo + j) r) * (((Real.log 2)⁻¹ : ℝ) : EReal) - M) * Ideal.div ((256 : ℝ) : EReal) S)
      = attend u v := by
  have hL : 0 < (Real.log 2)⁻¹ := inv_pos.mpr (Real.log_pos (by norm_num))
  have hMu : M = top u * (((Real.log 2)⁻¹ : ℝ) : EReal) := by
    apply le_antisymm
    · rw [hM]
      exact fun j _ r => mul_coe_le hL ((top_le u _).mp le_rfl _)
    · rw [← mul_coe_cancel hL M]
      refine mul_coe_le hL ((top_le u _).mpr fun t => ?_)
      by_cases ht : t.val / 256 < lo ∨ lo + n ≤ t.val / 256
      · rw [hu t ht]
        exact bot_le
      · rw [← mul_coe_cancel' hL (u t)]
        refine mul_coe_le (inv_pos.mpr hL) ?_
        have h := (hM M).mp le_rfl (t.val / 256 - lo) (by omega) ⟨t.val % 256, Nat.mod_lt _ (by norm_num)⟩
        have e : pos (lo + (t.val / 256 - lo)) ⟨t.val % 256, Nat.mod_lt _ (by norm_num)⟩ = t := by
          apply Fin.ext
          show min (lo + (t.val / 256 - lo)) 31 * 256 + t.val % 256 = t.val
          omega
        rwa [e] at h
  have he : ∀ t, Ideal.exp2 (u t * (((Real.log 2)⁻¹ : ℝ) : EReal) - M) = Ideal.exp (u t - top u) := by
    intro t
    rw [hMu, sub_mul_coe hL, exp2_mul]
  have hSu : S = mass u := by
    unfold mass
    rw [hS, sum_keys (fun t => Ideal.exp (u t - top u)) hn fun t ht => by rw [hu t ht, exp_bot_sub]]
    simp only [he]
  unfold attend
  rw [sum_keys _ hn fun t ht => by rw [hu t ht, exp_bot_sub, zero_mul, zero_mul, clip_zero, mul_zero], hSu]
  simp only [he, mul_div_256]

end Cert.Attn

end
-- ==== Proof.Math.Score.lean ====
module

public import proofs.«01_k».proof.Proof.Math.Softmax
public import Idealize.ShloMosaic.Lib.Pointwise

/-!
The function both programs compute: causal attention within a window of 4096 positions, four query heads to a
key-value head, as a function of the arguments index by index. And the words that compute its mask.
-/

@[expose] public section

noncomputable section

namespace Cert.Attn

open Idealize.ShloMosaic

/-! ## The specification -/

/-- The logit of query position `s`, head `g` of key-value head `h`, against key position `t`: the scaled inner
    product where `t` is among the 4096 positions that end at `s`, and minus infinity elsewhere. -/
def score (x : (⟨3, ![8, 8192, 1024]⟩ : Shape).Idx → EReal) (k : (⟨3, ![8, 8192, 256]⟩ : Shape).Idx → EReal)
    (qs : (⟨1, ![8]⟩ : Shape).Idx → EReal) (ks : (⟨1, ![2]⟩ : Shape).Idx → EReal)
    (B : Fin 8) (h : Fin 2) (g : Fin 4) (s t : Fin 8192) : EReal :=
  if t.val ≤ s.val ∧ s.val < t.val + 4096 then
    (∑ l : Fin 128, k (ix3 B t ⟨h.val * 128 + l.val, by omega⟩) * x (ix3 B s ⟨h.val * 512 + g.val * 128 + l.val, by omega⟩))
      * (qs (ix1 ⟨h.val * 4 + g.val, by omega⟩) * ks (ix1 h) * Ideal.ofBits .f32 0x3DB504F3#32)
  else ⊥

/-- The result at batch `B`, key-value head `h`, head `g` of it, position `s` and lane `d`. -/
def resultAt (x : (⟨3, ![8, 8192, 1024]⟩ : Shape).Idx → EReal) (k v : (⟨3, ![8, 8192, 256]⟩ : Shape).Idx → EReal)
    (qs : (⟨1, ![8]⟩ : Shape).Idx → EReal) (ks vs : (⟨1, ![2]⟩ : Shape).Idx → EReal)
    (B : Fin 8) (h : Fin 2) (g : Fin 4) (s : Fin 8192) (d : Fin 128) : EReal :=
  attend (score x k qs ks B h g s) (fun t => v (ix3 B t ⟨h.val * 128 + d.val, by omega⟩))
    * (vs (ix1 h) * Ideal.ofBits .f32 0x3B800000#32)

/-- The whole result: lane `c` of the output holds key-value head `c / 512`, its head `c / 128 % 4`, lane `c % 128`. -/
def result (x : (⟨3, ![8, 8192, 1024]⟩ : Shape).Idx → EReal) (k v : (⟨3, ![8, 8192, 256]⟩ : Shape).Idx → EReal)
    (qs : (⟨1, ![8]⟩ : Shape).Idx → EReal) (ks vs : (⟨1, ![2]⟩ : Shape).Idx → EReal) :
    (⟨3, ![8, 8192, 1024]⟩ : Shape).Idx → EReal := fun j =>
  resultAt x k v qs ks vs (j 0) ⟨(j 2).val / 512, by have : (j 2).val < 1024 := (j 2).isLt; omega⟩
    ⟨(j 2).val / 128 % 4, by omega⟩ (j 1) ⟨(j 2).val % 128, by omega⟩

/-- The result at an index, by the parts of the index. -/
theorem result_at (x : (⟨3, ![8, 8192, 1024]⟩ : Shape).Idx → EReal) (k v : (⟨3, ![8, 8192, 256]⟩ : Shape).Idx → EReal)
    (qs : (⟨1, ![8]⟩ : Shape).Idx → EReal) (ks vs : (⟨1, ![2]⟩ : Shape).Idx → EReal)
    (j : (⟨3, ![8, 8192, 1024]⟩ : Shape).Idx) (B : Fin 8) (h : Fin 2) (g : Fin 4) (s : Fin 8192) (d : Fin 128)
    (h0 : (j 0).val = B.val) (h1 : (j 1).val = s.val) (h2 : (j 2).val = h.val * 512 + g.val * 128 + d.val) :
    result x k v qs ks vs j = resultAt x k v qs ks vs B h g s d := by
  have e0 : j 0 = B := Fin.ext h0
  have e1 : j 1 = s := Fin.ext h1
  have e2 : (j 2).val / 512 = h.val := by omega
  have e3 : (j 2).val / 128 % 4 = g.val := by omega
  have e4 : (j 2).val % 128 = d.val := by omega
  unfold result
  simp only [e0, e1, e2, e3, e4]

/-! ## The words of the mask -/

/-- The difference of two small words, read as a signed integer. -/
theorem toInt_sub_ofNat (a b : ℕ) (ha : a < 65536) (hb : b < 65536) :
    (BitVec.ofNat 32 a - BitVec.ofNat 32 b).toInt = (a : ℤ) - b := by
  have e : ∀ n : ℕ, n < 65536 → (BitVec.ofNat 32 n).toInt = n := fun n hn => by
    rw [BitVec.toInt_eq_toNat_of_lt (by rw [BitVec.toNat_ofNat]; omega), BitVec.toNat_ofNat]; omega
  rw [BitVec.toInt_sub, e a ha, e b hb, Int.bmod_def]
  split_ifs <;> omega

theorem and_255 (n : ℕ) (hn : n < 65536) : BitVec.ofNat 32 n &&& 255#32 = BitVec.ofNat 32 (n % 256) := by
  apply BitVec.eq_of_toNat_eq
  simp only [BitVec.toNat_and, BitVec.toNat_ofNat]
  rw [show 255 % 2 ^ 32 = 2 ^ 8 - 1 from rfl, Nat.and_two_pow_sub_one_eq_mod]
  omega

/-- The window's mask, computed on words. -/
theorem select_window {α : Type} (s t : ℕ) (hs : s < 8192) (ht : t < 8192) (x y : α) :
    Scalar.select (IntOp.andi (IntOp.cmpi .sge (IntOp.subi (BitVec.ofNat 32 s) (BitVec.ofNat 32 t)) 0#32)
      (IntOp.cmpi .slt (IntOp.subi (BitVec.ofNat 32 s) (BitVec.ofNat 32 t)) 4096#32)) x y
      = if t ≤ s ∧ s < t + 4096 then x else y := by
  have hd := toInt_sub_ofNat s t (by omega) (by omega)
  have h1 : (0#32).sle (BitVec.ofNat 32 s - BitVec.ofNat 32 t) = decide (t ≤ s) := by
    rw [BitVec.sle, hd]; exact decide_eq_decide.2 (by simp)
  have h2 : (BitVec.ofNat 32 s - BitVec.ofNat 32 t).slt 4096#32 = decide (s < t + 4096) := by
    rw [BitVec.slt, hd, show (4096#32).toInt = 4096 from rfl]; exact decide_eq_decide.2 (by omega)
  simp only [Scalar.select, IntOp.andi, IntOp.cmpi, IntOp.subi, h1, h2]
  by_cases p : t ≤ s <;> by_cases q : s < t + 4096 <;> simp [p, q]

/-- The mask of the oldest chunk: rows past the column's position. -/
theorem select_old {α : Type} (c r : ℕ) (hc : c < 1024) (hr : r < 256) (x y : α) :
    Scalar.select (IntOp.cmpi .slt (IntOp.subi (IntOp.andi (BitVec.ofNat 32 c) 255#32) (BitVec.ofNat 32 r)) 0#32) x y
      = if c % 256 < r then x else y := by
  have hd := toInt_sub_ofNat (c % 256) r (by omega) (by omega)
  have h2 : (BitVec.ofNat 32 (c % 256) - BitVec.ofNat 32 r).slt 0#32 = decide (c % 256 < r) := by
    rw [BitVec.slt, hd, show (0#32).toInt = 0 from rfl]; exact decide_eq_decide.2 (by omega)
  simp only [Scalar.select, IntOp.andi, IntOp.cmpi, IntOp.subi, and_255 c (by omega), h2]
  by_cases q : c % 256 < r <;> simp [q]

/-- The mask of the diagonal chunk: rows up to the column's position. -/
theorem select_diag {α : Type} (c r : ℕ) (hc : c < 1024) (hr : r < 256) (x y : α) :
    Scalar.select (IntOp.cmpi .sge (IntOp.subi (IntOp.andi (BitVec.ofNat 32 c) 255#32) (BitVec.ofNat 32 r)) 0#32) x y
      = if r ≤ c % 256 then x else y := by
  have hd := toInt_sub_ofNat (c % 256) r (by omega) (by omega)
  have h2 : (0#32).sle (BitVec.ofNat 32 (c % 256) - BitVec.ofNat 32 r) = decide (r ≤ c % 256) := by
    rw [BitVec.sle, hd, show (0#32).toInt = 0 from rfl]; exact decide_eq_decide.2 (by omega)
  simp only [Scalar.select, IntOp.andi, IntOp.cmpi, IntOp.subi, and_255 c (by omega), h2]
  by_cases q : r ≤ c % 256 <;> simp [q]

end Cert.Attn

end
-- ==== Proof.KI.Apply.lean ====
module

public import proofs.«01_k».proof.Proof.KI.Run
public import proofs.«01_k».proof.Proof.Math.Score

/-!
The kernel's vector expressions, read at an index on the extended reals.
-/

@[expose] public section

set_option maxRecDepth 16384

noncomputable section

namespace Cert.KernelIdeal.Hand

open Cert.KernelIdeal Cert.KernelIdeal.Gen
open Idealize.ShloMosaic

/-- The scaled inner product of row `r` of a chunk of keys and the query of column `col`. -/
def dotc (q : FVec Ideal S1024x128 .fp8e4m3) (c : FVec Ideal S1x1024 .f32) (k : Vec Ideal S1x256x128 .fp8e4m3)
    (r : Fin 256) (col : Fin 1024) : EReal :=
  (∑ l : Fin 128, k (ix3 0 r l) * q (ix2 col l)) * c (ix2 0 col)

section Logits

variable (q : FVec Ideal S1024x128 .fp8e4m3) (c : FVec Ideal S1x1024 .f32) (k : Vec Ideal S1x256x128 .fp8e4m3)

/-- The logits of a chunk without a mask. -/
theorem pay14_apply (r : Fin 256) (col : Fin 1024) : k0_pay14 q c k (ix2 r col) = dotc q c k r col := by
  pointwise [k0_pay14, k0_pay13]
  rfl

/-- The logits of the window's oldest chunk. -/
theorem pay11_apply (r : Fin 256) (col : Fin 1024) :
    k0_pay11 q c k0_pay6 k (ix2 r col) = if col.val % 256 < r.val then dotc q c k r col else ⊥ := by
  pointwise [k0_pay11, k0_pay10, k0_pay6]
  simp only [Attn.select_old _ _ (Fin.isLt _) (Fin.isLt _), Attn.ofBits_bot]
  rfl

/-- The logits of the diagonal chunk. -/
theorem pay7_apply (s0 s1 : FVec Ideal S1x256 .f32) (a b d e : Elt Ideal .f32) (r : Fin 256) (col : Fin 1024) :
    k0_pay7 q s0 s1 a b d e k (ix2 r col)
      = if r.val ≤ col.val % 256 then dotc q (k0_pay5 s0 s1 a b d e) k r col else ⊥ := by
  pointwise [k0_pay7, k0_pay6]
  simp only [Attn.select_diag _ _ (Fin.isLt _) (Fin.isLt _), Attn.ofBits_bot]
  rfl

theorem pay8_apply (v : FVec Ideal S256x1024 .f32) (r : Fin 256) (col : Fin 1024) : k0_pay8 v (ix2 r col) = v (ix2 r col) := by
  pointwise [k0_pay8]

end Logits

section Maximum

variable (q : FVec Ideal S1024x128 .fp8e4m3) (c : FVec Ideal S1x1024 .f32) (k : Vec Ideal S1x256x128 .fp8e4m3)

/-- Row `p` of the diagonal chunk's column maximum bounds the rows `8 i + p`. -/
theorem pay9_le (v : FVec Ideal S256x1024 .f32) (p : Fin 8) (col : Fin 1024) (y : EReal) :
    k0_pay9 v (ix2 p col) ≤ y ↔ ∀ i : Fin 32, v (ix2 ⟨i.val * 8 + p.val, by omega⟩ col) ≤ y := by
  pointwise [k0_pay9]
  rw [Attn.ofBits_bot, Finset.fold_max_le]
  simp

/-- The oldest chunk joins the column maximum. -/
theorem pay12_le (o : FVec Ideal S8x1024 .f32) (p : Fin 8) (col : Fin 1024) (y : EReal) :
    k0_pay12 q c k0_pay6 k o (ix2 p col) ≤ y ↔ o (ix2 p col) ≤ y
      ∧ ∀ i : Fin 32, k0_pay11 q c k0_pay6 k (ix2 ⟨i.val * 8 + p.val, by omega⟩ col) ≤ y := by
  simp only [pay11_apply]
  pointwise [k0_pay12, k0_pay10, k0_pay6]
  rw [Attn.ofBits_bot, max_le_iff, Finset.fold_max_le]
  refine and_congr_right fun _ => ?_
  simp only [bot_le, Finset.mem_univ, true_and, forall_true_left]
  refine forall_congr' fun i => ?_
  rw [Attn.select_old _ _ col.isLt (by omega)]
  rfl

/-- A chunk joins the column maximum. -/
theorem pay15_le (o : FVec Ideal S8x1024 .f32) (p : Fin 8) (col : Fin 1024) (y : EReal) :
    k0_pay15 q c k o (ix2 p col) ≤ y ↔ o (ix2 p col) ≤ y
      ∧ ∀ i : Fin 32, k0_pay14 q c k (ix2 ⟨i.val * 8 + p.val, by omega⟩ col) ≤ y := by
  simp only [pay14_apply]
  pointwise [k0_pay15, k0_pay13]
  rw [Attn.ofBits_bot, max_le_iff, Finset.fold_max_le]
  simp [dotc]

/-- The maximum of the eight rows. -/
theorem pay19_le (o : FVec Ideal S8x1024 .f32) (col : Fin 1024) (y : EReal) :
    k0_pay19 (F := Ideal) o (ix2 0 col) ≤ y ↔ ∀ p : Fin 8, o (ix2 p col) ≤ y := by
  pointwise [k0_pay19]
  rw [Attn.ofBits_bot, Finset.fold_max_le]
  simp

end Maximum

section Sums

theorem pay20_apply (p : Fin 8) (col : Fin 1024) : k0_pay20 (F := Ideal) (ix2 p col) = 0 := by
  pointwise [k0_pay20]

/-- The exponentials of a slot. -/
theorem pay22_apply (M : FVec Ideal S8x1024 .f32) (v : FVec Ideal S256x1024 .f32) (r : Fin 256) (col : Fin 1024) :
    k0_pay22 (F := Ideal) M v (ix2 r col) = Ideal.exp2 (v (ix2 r col) - k0_pay19 (F := Ideal) M (ix2 0 col)) := by
  pointwise [k0_pay22, k0_pay21]
  rfl

/-- A slot's exponentials join the sum. -/
theorem pay23_apply (M o : FVec Ideal S8x1024 .f32) (v : FVec Ideal S256x1024 .f32) (p : Fin 8) (col : Fin 1024) :
    k0_pay23 (F := Ideal) M o v (ix2 p col) = o (ix2 p col)
      + ∑ i : Fin 32, Ideal.exp2 (v (ix2 ⟨i.val * 8 + p.val, by omega⟩ col) - k0_pay19 (F := Ideal) M (ix2 0 col)) := by
  pointwise [k0_pay23, k0_pay21]
  rfl

/-- The sum of the eight rows. -/
theorem pay27_apply (o : FVec Ideal S8x1024 .f32) (col : Fin 1024) :
    k0_pay27 o (ix2 0 col) = ∑ p : Fin 8, o (ix2 p col) := by
  pointwise [k0_pay27]

theorem pay30_apply (d : Fin 128) (col : Fin 1024) : k0_pay30 (F := Ideal) (ix2 d col) = 0 := by
  pointwise [k0_pay30]

/-- A chunk of values joins the accumulator, weighted by its coded probabilities. -/
theorem pay31_apply (l : FVec Ideal S1x1024 .f32) (e : FVec Ideal S256x1024 .f32) (w : Vec Ideal S1x256x128 .fp8e4m3)
    (o : FVec Ideal S128x1024 .f32) (d : Fin 128) (col : Fin 1024) :
    k0_pay31 l k0_pay28 e w o (ix2 d col) = o (ix2 d col)
      + ∑ r : Fin 256, w (ix3 0 r d) * Attn.clip (e (ix2 r col) * Ideal.div ((256 : ℝ) : EReal) (l (ix2 0 col))) := by
  pointwise [k0_pay31, k0_pay28, k0_pay29]
  simp only [Attn.clip, Attn.ofBits_448, Attn.ofBits_neg448, Attn.ofBits_256]

end Sums

section Scales

/-- The queries of the four heads, stacked: column `col` is head `col / 256` at position `col % 256` of the block. -/
theorem queries_apply (x : Vec Ideal S1x256x512 .fp8e4m3) (col : Fin 1024) (l : Fin 128) :
    queriesOf x (ix2 col l) = x (ix3 0 ⟨col.val % 256, by omega⟩ ⟨col.val / 256 * 128 + l.val, by omega⟩) := by
  pointwise [queriesOf, k0_pay2]
  split_ifs <;> congr 2 <;> simp only [Fin.mk.injEq] <;> omega

/-- The scale of a column's logits, in powers of two. -/
theorem scale_apply (qs ks : ℕ → Elt Ideal .f32) (h : ℕ) (col : Fin 1024) :
    colScale (F := Ideal) qs ks h (ix2 0 col)
      = qs (h * 4 + col.val / 256) * ks h * Ideal.ofBits .f32 0x3DB504F3#32 * (((Real.log 2)⁻¹ : ℝ) : EReal) := by
  have hL : Named.named (F := Ideal) Cert.KernelIdeal.κ "log2e" (φ := .f32) 0x3FB8AA3B#32 = (((Real.log 2)⁻¹ : ℝ) : EReal) :=
    IdealRules.named_const.ideal_named_scalar _ _ _ _ rfl
  pointwise [colScale, k0_pay3, k0_pay4, k0_pay5]
  rw [← hL]
  obtain h0 | h0 | h0 | h0 : col.val / 256 = 0 ∨ col.val / 256 = 1 ∨ col.val / 256 = 2 ∨ col.val / 256 = 3 := by omega
  all_goals rw [h0]; split_ifs <;> first | rfl | omega

end Scales

section Out

variable (o : FVec Ideal S128x1024 .f32) (s : Elt Ideal .f32) (r : Fin 256) (l : Fin 128)

theorem pay34_apply : k0_pay34 o s (ix3 0 r l) = o (ix2 l ⟨r.val, by omega⟩) * (s * Ideal.ofBits .f32 0x3B800000#32) := by
  pointwise [k0_pay34, k0_pay33]

theorem pay35_apply : k0_pay35 o s (ix3 0 r l) = o (ix2 l ⟨256 + r.val, by omega⟩) * (s * Ideal.ofBits .f32 0x3B800000#32) := by
  pointwise [k0_pay35, k0_pay33]

theorem pay36_apply : k0_pay36 o s (ix3 0 r l) = o (ix2 l ⟨512 + r.val, by omega⟩) * (s * Ideal.ofBits .f32 0x3B800000#32) := by
  pointwise [k0_pay36, k0_pay33]

theorem pay1_apply : k0_pay1 (k0_pay33 o s) (ix3 0 r l) = o (ix2 l ⟨768 + r.val, by omega⟩) * (s * Ideal.ofBits .f32 0x3B800000#32) := by
  pointwise [k0_pay1, k0_pay33]

end Out

end Cert.KernelIdeal.Hand

end
-- ==== Proof.KI.Column.lean ====
module

public import proofs.«01_k».proof.Proof.KI.Apply

/-!
One column of one grid point: the recursions over the slots are a maximum, a sum and a weighted sum over the keys of the
slots, and so the attention of the column's logits.
-/

@[expose] public section

set_option maxRecDepth 16384

noncomputable section

namespace Cert.KernelIdeal.Hand

open Cert.KernelIdeal Cert.KernelIdeal.Gen
open Idealize.ShloMosaic

/-- The 256 rows of a chunk, as eight residues of 32 rows each. -/
theorem forall_rows (P : Fin 256 → Prop) :
    (∀ r, P r) ↔ ∀ p : Fin 8, ∀ i : Fin 32, P ⟨i.val * 8 + p.val, by omega⟩ := by
  refine ⟨fun h p i => h _, fun h r => ?_⟩
  have := h ⟨r.val % 8, by omega⟩ ⟨r.val / 8, by omega⟩
  have e : (⟨r.val / 8 * 8 + r.val % 8, by omega⟩ : Fin 256) = r := Fin.ext (by show r.val / 8 * 8 + r.val % 8 = r.val; omega)
  rwa [e] at this

variable (q : FVec Ideal S1024x128 .fp8e4m3) (c : FVec Ideal S1x1024 .f32) (D : FVec Ideal S256x1024 .f32)
  (key val : ℕ → Vec Ideal S1x256x128 .fp8e4m3) (b : ℕ) (col : Fin 1024)

/-- The maximum of the column over all slots. -/
abbrev peak : EReal := k0_pay19 (F := Ideal) (colmax q c k0_pay6 D key b) (ix2 0 col)

/-- The running maximum bounds the last slot, the first where it is masked, and the slots passed. -/
theorem maxTo_le (p : Fin 8) (y : EReal) (n : ℕ) :
    maxTo q c k0_pay6 D key b n (ix2 p col) ≤ y ↔
      (∀ i : Fin 32, D (ix2 ⟨i.val * 8 + p.val, by omega⟩ col) ≤ y)
      ∧ (16 ≤ b → ∀ i : Fin 32, k0_pay11 q c k0_pay6 (key (lo b)) (ix2 ⟨i.val * 8 + p.val, by omega⟩ col) ≤ y)
      ∧ ∀ k < n, ∀ i : Fin 32, k0_pay14 q c (key (lo b + (fst b + k))) (ix2 ⟨i.val * 8 + p.val, by omega⟩ col) ≤ y := by
  induction n with
  | zero =>
    simp only [maxTo, maxInit]
    split_ifs with h16
    · rw [pay12_le, pay9_le]; simp [h16]
    · rw [pay9_le]; simp [h16]
  | succ n ih =>
    rw [maxTo, pay15_le, ih]
    constructor
    · rintro ⟨⟨h1, h2, h3⟩, h4⟩
      refine ⟨h1, h2, fun k hk i => ?_⟩
      obtain hk | rfl : k < n ∨ k = n := by omega
      · exact h3 k hk i
      · exact h4 i
    · rintro ⟨h1, h2, h3⟩
      exact ⟨⟨h1, h2, fun k hk => h3 k (by omega)⟩, h3 n (by omega)⟩

/-- The column maximum is the least upper bound of the logits of the slots. -/
theorem colmax_le (y : EReal) : peak q c D key b col ≤ y ↔ ∀ j < cnt b, ∀ r : Fin 256, lgt q c k0_pay6 D key b j (ix2 r col) ≤ y := by
  rw [peak, pay19_le]
  simp only [forall_rows, colmax, maxTo_le]
  have hc : cnt b = b - (b - 16) + 1 := rfl
  constructor
  · intro h j hj p i
    obtain ⟨h1, h2, h3⟩ := h p
    unfold lgt
    split_ifs with e1 e2
    · rw [pay8_apply]; exact h1 i
    · exact h2 e2.1 i
    · have := h3 (j - fst b) (by unfold fst; split_ifs <;> omega) i
      rwa [show lo b + (fst b + (j - fst b)) = lo b + j by unfold fst; split_ifs <;> omega] at this
  · intro h p
    refine ⟨fun i => ?_, fun h16 i => ?_, fun k hk i => ?_⟩
    · have := h (cnt b - 1) (by omega) p i
      rwa [lgt, if_pos rfl, pay8_apply] at this
    · have := h 0 (by omega) p i
      rwa [lgt, if_neg (by omega), if_pos ⟨h16, rfl⟩] at this
    · have := h (fst b + k) (by omega) p i
      rwa [lgt, if_neg (by omega), if_neg (by unfold fst; split_ifs <;> omega)] at this

/-- The running sum, row by row. -/
theorem sumTo_apply (p : Fin 8) (n : ℕ) :
    sumTo q c k0_pay6 D key b n (ix2 p col)
      = ∑ j ∈ Finset.range n, ∑ i : Fin 32, Ideal.exp2 (lgt q c k0_pay6 D key b j (ix2 ⟨i.val * 8 + p.val, by omega⟩ col) - peak q c D key b col) := by
  induction n with
  | zero => rw [sumTo, pay20_apply]; rfl
  | succ n ih => rw [sumTo, pay23_apply, ih, Finset.sum_range_succ]

/-- The sum of the exponentials of the slots. -/
theorem total_apply :
    total q c k0_pay6 D key b (ix2 0 col)
      = ∑ j ∈ Finset.range (cnt b), ∑ r : Fin 256, Ideal.exp2 (lgt q c k0_pay6 D key b j (ix2 r col) - peak q c D key b col) := by
  rw [total, pay27_apply]
  simp only [sumTo_apply]
  rw [Finset.sum_comm]
  refine Finset.sum_congr rfl fun j _ => ?_
  rw [Attn.sum_rows]

/-- The accumulator after some slots. -/
theorem accTo_apply (d : Fin 128) (n : ℕ) :
    accTo q c k0_pay6 D key val b n (ix2 d col)
      = ∑ j ∈ Finset.range n, ∑ r : Fin 256, val (lo b + j) (ix3 0 r d)
          * Attn.clip (Ideal.exp2 (lgt q c k0_pay6 D key b j (ix2 r col) - peak q c D key b col) * Ideal.div ((256 : ℝ) : EReal) (total q c k0_pay6 D key b (ix2 0 col))) := by
  induction n with
  | zero => rw [accTo, pay30_apply]; rfl
  | succ n ih =>
    rw [accTo, pay31_apply, ih, Finset.sum_range_succ]
    simp only [expo, pay22_apply]

/-- So the accumulator is the attention of logits `u` and values `v`, where the slots hold those of `u`, in powers of two,
    and where `u` is minus infinity outside the slots. -/
theorem accTo_eq_attend (hb : b ≤ 31) (d : Fin 128) (u v : Fin 8192 → EReal)
    (hl : ∀ j < cnt b, ∀ r, lgt q c k0_pay6 D key b j (ix2 r col) = u (Attn.pos (lo b + j) r) * (((Real.log 2)⁻¹ : ℝ) : EReal))
    (hv : ∀ j < cnt b, ∀ r, val (lo b + j) (ix3 0 r d) = v (Attn.pos (lo b + j) r))
    (hu : ∀ t : Fin 8192, t.val / 256 < lo b ∨ lo b + cnt b ≤ t.val / 256 → u t = ⊥) :
    accTo q c k0_pay6 D key val b (cnt b) (ix2 d col) = Attn.attend u v := by
  rw [accTo_apply, ← Attn.attend_chunks u v (lo := lo b) (n := cnt b) (by have : cnt b = b - (b - 16) + 1 := rfl; have : lo b = b - 16 := rfl; omega) hu
    (peak q c D key b col) (total q c k0_pay6 D key b (ix2 0 col)) ?_ ?_]
  · refine Finset.sum_congr rfl fun j hj => Finset.sum_congr rfl fun r _ => ?_
    rw [hl j (Finset.mem_range.1 hj), hv j (Finset.mem_range.1 hj)]
  · intro x
    rw [colmax_le]
    exact forall₃_congr fun j hj r => by rw [hl j hj]
  · rw [total_apply]
    refine Finset.sum_congr rfl fun j hj => Finset.sum_congr rfl fun r _ => ?_
    rw [hl j (Finset.mem_range.1 hj)]

end Cert.KernelIdeal.Hand

end
-- ==== Proof.KI.Block.lean ====
module

public import proofs.«01_k».proof.Proof.KI.Column

/-!
The output block of a grid point, index by index: where its input blocks are those of the arguments, it is the block of
`Attn.resultAt`.
-/

@[expose] public section

set_option maxRecDepth 16384

noncomputable section

namespace Cert.KernelIdeal.Hand

open Cert.KernelIdeal Cert.KernelIdeal.Gen
open Idealize.ShloMosaic

/-- Row `r` of chunk `j`. -/
theorem chunk_apply (x : Vec Ideal S1x8192x128 .fp8e4m3) (j : ℕ) (r : Fin 256) (l : Fin 128) :
    chunkOf x j (ix3 0 r l) = x (ix3 0 (Attn.pos j r) l) := by
  unfold chunkOf View.ld
  refine congrArg x (funext fun a => Fin.ext ?_)
  match a with
  | 0 => rfl
  | 1 => show min j 31 * 256 + 1 * r.val = min j 31 * 256 + r.val; omega
  | 2 => show 0 + 1 * l.val = l.val; omega

theorem scal8_apply (x : Vec Ideal S8 .f32) (n : ℕ) : scalOf8 x n = x (ix1 ⟨min n 7, by omega⟩) := by
  unfold scalOf8 View.ld
  refine congrArg x (funext fun a => Fin.ext ?_)
  match a with
  | 0 => rfl

theorem scal2_apply (x : Vec Ideal S2 .f32) (n : ℕ) : scalOf2 x n = x (ix1 ⟨min n 1, by omega⟩) := by
  unfold scalOf2 View.ld
  refine congrArg x (funext fun a => Fin.ext ?_)
  match a with
  | 0 => rfl

/-- `x3` is the block of the queries `x` of batch `B`, key-value head `h` and query block `b`. -/
def QueryBlock (x : (⟨3, ![8, 8192, 1024]⟩ : Shape).Idx → EReal) (B : Fin 8) (h : Fin 2) (b : Fin 32) (x3 : Vec Ideal S1x256x512 .fp8e4m3) : Prop :=
  ∀ (r : Fin 256) (l : Fin 512), x3 (ix3 0 r l) = x (ix3 B ⟨b.val * 256 + r.val, by omega⟩ ⟨h.val * 512 + l.val, by omega⟩)

/-- `x4` is the block of the keys, or the values, `k` of batch `B` and key-value head `h`. -/
def KeyBlock (k : (⟨3, ![8, 8192, 256]⟩ : Shape).Idx → EReal) (B : Fin 8) (h : Fin 2) (x4 : Vec Ideal S1x8192x128 .fp8e4m3) : Prop :=
  ∀ (t : Fin 8192) (l : Fin 128), x4 (ix3 0 t l) = k (ix3 B t ⟨h.val * 128 + l.val, by omega⟩)

section Point

variable (x : (⟨3, ![8, 8192, 1024]⟩ : Shape).Idx → EReal) (k v : (⟨3, ![8, 8192, 256]⟩ : Shape).Idx → EReal)
  (qs : (⟨1, ![8]⟩ : Shape).Idx → EReal) (ks vs : (⟨1, ![2]⟩ : Shape).Idx → EReal)
  (B : Fin 8) (h : Fin 2) (b : Fin 32)
  (x3 : Vec Ideal S1x256x512 .fp8e4m3) (x4 x5 : Vec Ideal S1x8192x128 .fp8e4m3)
  (h3 : QueryBlock x B h b x3) (h4 : KeyBlock k B h x4) (h5 : KeyBlock v B h x5)

include h3 h4 in
/-- The scaled inner product of a chunk's row and a column is the logit without its mask, in powers of two. -/
theorem dotc_eq (j : ℕ) (r : Fin 256) (g : Fin 4) (s : Fin 256) (col : Fin 1024) (hcol : col.val = g.val * 256 + s.val) :
    dotc (queriesOf x3) (colScale (scalOf8 qs) (scalOf2 ks) h.val) (chunkOf x4 j) r col
      = (∑ l : Fin 128, k (ix3 B (Attn.pos j r) ⟨h.val * 128 + l.val, by omega⟩)
            * x (ix3 B ⟨b.val * 256 + s.val, by omega⟩ ⟨h.val * 512 + g.val * 128 + l.val, by omega⟩))
        * (qs (ix1 ⟨h.val * 4 + g.val, by omega⟩) * ks (ix1 h) * Ideal.ofBits .f32 0x3DB504F3#32)
        * (((Real.log 2)⁻¹ : ℝ) : EReal) := by
  have e1 : col.val / 256 = g.val := by omega
  have e2 : col.val % 256 = s.val := by omega
  have e3 : (⟨min (h.val * 4 + g.val) 7, by omega⟩ : Fin 8) = ⟨h.val * 4 + g.val, by omega⟩ := Fin.ext (Nat.min_eq_left (by omega))
  have e4 : (⟨min h.val 1, by omega⟩ : Fin 2) = h := Fin.ext (Nat.min_eq_left (by omega))
  unfold dotc
  rw [scale_apply, scal8_apply, scal2_apply, ← mul_assoc]
  simp only [e1, e3, e4]
  congr 2
  refine Finset.sum_congr rfl fun l _ => ?_
  rw [chunk_apply, h4 _ _, queries_apply, h3 _ _]
  congr 3
  · exact Fin.ext (by show b.val * 256 + col.val % 256 = _; rw [e2])
  · exact Fin.ext (by show h.val * 512 + (col.val / 256 * 128 + l.val) = h.val * 512 + g.val * 128 + l.val; rw [e1]; omega)

include h3 h4 in
/-- The logits of the slots. -/
theorem lgt_eq (j : ℕ) (hj : j < cnt b.val) (r : Fin 256) (g : Fin 4) (s : Fin 256) (col : Fin 1024) (hcol : col.val = g.val * 256 + s.val) :
    lgt (queriesOf x3) (colScale (scalOf8 qs) (scalOf2 ks) h.val) k0_pay6
        (diag (queriesOf x3) (scalOf8 qs) (scalOf2 ks) h.val b.val (chunkOf x4)) (chunkOf x4) b.val j (ix2 r col)
      = Attn.score x k qs ks B h g ⟨b.val * 256 + s.val, by omega⟩ (Attn.pos (lo b.val + j) r) * (((Real.log 2)⁻¹ : ℝ) : EReal) := by
  have hb := b.isLt
  have hr := r.isLt
  have hc : cnt b.val = b.val - (b.val - 16) + 1 := rfl
  have hl : lo b.val = b.val - 16 := rfl
  have hp : (Attn.pos (lo b.val + j) r).val = (lo b.val + j) * 256 + r.val := by
    show min (lo b.val + j) 31 * 256 + r.val = _
    rw [Nat.min_eq_left (by omega)]
  have hbot : (⊥ : EReal) * (((Real.log 2)⁻¹ : ℝ) : EReal) = ⊥ :=
    EReal.bot_mul_coe_of_pos (inv_pos.mpr (Real.log_pos (by norm_num)))
  have e2 : col.val % 256 = s.val := by omega
  unfold lgt Attn.score
  dsimp only
  rw [hp, ite_mul, hbot]
  split_ifs with a1 a2 a3 a4 a5
  · rw [pay8_apply, diag, pay7_apply, if_pos (by omega)]
    refine (dotc_eq x k qs ks B h b x3 x4 h3 h4 b.val r g s col hcol).trans ?_
    rw [show lo b.val + j = b.val by omega]
  · rw [pay8_apply, diag, pay7_apply, if_neg (by omega)]
  · rw [pay11_apply, if_pos (by omega), show lo b.val + j = lo b.val by omega]
    exact dotc_eq x k qs ks B h b x3 x4 h3 h4 (lo b.val) r g s col hcol
  · rw [pay11_apply, if_neg (by omega)]
  · rw [pay14_apply]
    exact dotc_eq x k qs ks B h b x3 x4 h3 h4 (lo b.val + j) r g s col hcol
  · omega

include h3 h4 h5 in
/-- The accumulator at the end of a grid point. -/
theorem accOf_eq (g : Fin 4) (s : Fin 256) (col : Fin 1024) (hcol : col.val = g.val * 256 + s.val) (d : Fin 128) :
    accOf h.val b.val qs ks x3 x4 x5 (ix2 d col)
      = Attn.attend (Attn.score x k qs ks B h g ⟨b.val * 256 + s.val, by omega⟩) (fun t => v (ix3 B t ⟨h.val * 128 + d.val, by omega⟩)) := by
  unfold accOf acc
  refine accTo_eq_attend _ _ _ _ _ b.val col (by omega) d _ _
    (fun j hj r => lgt_eq x k qs ks B h b x3 x4 h3 h4 j hj r g s col hcol)
    (fun j hj r => by rw [chunk_apply, h5 _ _]) (fun t ht => ?_)
  have hc : cnt b.val = b.val - (b.val - 16) + 1 := rfl
  have hl : lo b.val = b.val - 16 := rfl
  unfold Attn.score
  exact if_neg (by show ¬(t.val ≤ b.val * 256 + s.val ∧ b.val * 256 + s.val < t.val + 4096); omega)

/-- The block of the result that a grid point is to write. -/
def blockOf : Vec Ideal S1x256x512 .bf16 := fun y =>
  Attn.resultAt x k v qs ks vs B h ⟨(y 2).val / 128, by have : (y 2).val < 512 := (y 2).isLt; omega⟩
    ⟨b.val * 256 + (y 1).val, by have : (y 1).val < 256 := (y 1).isLt; omega⟩ ⟨(y 2).val % 128, by omega⟩

theorem blockOf_at (y : S1x256x512.Idx) (g : Fin 4) (s : Fin 256) (d : Fin 128) (h1 : (y 1).val = s.val) (h2 : (y 2).val = g.val * 128 + d.val) :
    blockOf x k v qs ks vs B h b y = Attn.resultAt x k v qs ks vs B h g ⟨b.val * 256 + s.val, by omega⟩ d := by
  have e1 : (y 2).val / 128 = g.val := by omega
  have e2 : (y 2).val % 128 = d.val := by omega
  unfold blockOf
  simp only [e1, e2, h1]

include h3 h4 h5 in
/-- The output block of a grid point. -/
theorem outBlk_eq : outBlk h.val b.val qs ks vs x3 x4 x5 = blockOf x k v qs ks vs B h b := by
  have e4 : (⟨min h.val 1, by omega⟩ : Fin 2) = h := Fin.ext (Nat.min_eq_left (by omega))
  have hs : scalOf2 (F := Ideal) vs h.val = vs (ix1 h) := by rw [scal2_apply, e4]
  funext y
  unfold outBlk
  refine View.canon_apply_of_pieces (blockOf x k v qs ks vs B h b) _ ?_ y (cover_out _ _ _ _ y)
  intro p hp
  simp only [List.mem_cons, List.not_mem_nil, or_false] at hp
  rcases hp with rfl | rfl | rfl | rfl <;> intro j <;>
    obtain ⟨z, r, l, rfl⟩ : ∃ (z : Fin 1) (r : Fin 256) (l : Fin 128), j = ix3 z r l := ⟨_, _, _, eq_ix3 j⟩ <;>
    obtain rfl : z = 0 := Subsingleton.elim _ _
  · refine (pay1_apply _ _ r l).trans ?_
    rw [blockOf_at x k v qs ks vs B h b _ 3 r l (by show 0 + 1 * r.val = r.val; omega) (by show 384 + 1 * l.val = 3 * 128 + l.val; omega), hs,
      accOf_eq x k v qs ks B h b x3 x4 x5 h3 h4 h5 3 r _ (by show 768 + r.val = 3 * 256 + r.val; omega) l]
    rfl
  · refine (pay36_apply _ _ r l).trans ?_
    rw [blockOf_at x k v qs ks vs B h b _ 2 r l (by show 0 + 1 * r.val = r.val; omega) (by show 256 + 1 * l.val = 2 * 128 + l.val; omega), hs,
      accOf_eq x k v qs ks B h b x3 x4 x5 h3 h4 h5 2 r _ (by show 512 + r.val = 2 * 256 + r.val; omega) l]
    rfl
  · refine (pay35_apply _ _ r l).trans ?_
    rw [blockOf_at x k v qs ks vs B h b _ 1 r l (by show 0 + 1 * r.val = r.val; omega) (by show 128 + 1 * l.val = 1 * 128 + l.val; omega), hs,
      accOf_eq x k v qs ks B h b x3 x4 x5 h3 h4 h5 1 r _ (by show 256 + r.val = 1 * 256 + r.val; omega) l]
    rfl
  · refine (pay34_apply _ _ r l).trans ?_
    rw [blockOf_at x k v qs ks vs B h b _ 0 r l (by show 0 + 1 * r.val = r.val; omega) (by show 0 + 1 * l.val = 0 * 128 + l.val; omega), hs,
      accOf_eq x k v qs ks B h b x3 x4 x5 h3 h4 h5 0 r _ (by show r.val = 0 * 256 + r.val; omega) l]
    rfl

end Point

end Cert.KernelIdeal.Hand

end
-- ==== Proof.KI.Value.lean ====
module

public import proofs.«01_k».proof.Proof.KI.Block
public import Idealize.ShloMosaic.Lib.Pipeline.Value

/-!
The kernel's result array: the windows' blocks are blocks of the arguments, every grid point writes its block of
`Attn.result`, and the points' blocks cover the array.
-/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The grid -/

/-- The batch, the key-value head and the query block of a grid point. -/
theorem coords_eq : ∀ t : Fin cfg0.N, (grid0.coords t 0).val = t.val / 64 ∧ (grid0.coords t 1).val = t.val / 32 % 2
    ∧ (grid0.coords t 2).val = t.val % 32 :=
  (by decide +kernel : ∀ t : Fin grid0.N, (grid0.coords t 0).val = t.val / 64 ∧ (grid0.coords t 1).val = t.val / 32 % 2
    ∧ (grid0.coords t 2).val = t.val % 32)

theorem idx0 : ∀ t : Fin cfg0.N, win0_0.index t 0 = 0 := (by decide +kernel : ∀ t : Fin grid0.N, win0_0.index t 0 = 0)
theorem idx1 : ∀ t : Fin cfg0.N, win0_1.index t 0 = 0 := (by decide +kernel : ∀ t : Fin grid0.N, win0_1.index t 0 = 0)
theorem idx2 : ∀ t : Fin cfg0.N, win0_2.index t 0 = 0 := (by decide +kernel : ∀ t : Fin grid0.N, win0_2.index t 0 = 0)

/-- The block of queries is that of the point's batch, query block and key-value head. -/
theorem idx3 : ∀ t : Fin cfg0.N, win0_3.index t 0 = (grid0.coords t 0).val ∧ win0_3.index t 1 = (grid0.coords t 2).val
    ∧ win0_3.index t 2 = (grid0.coords t 1).val :=
  (by decide +kernel : ∀ t : Fin grid0.N, win0_3.index t 0 = (grid0.coords t 0).val ∧ win0_3.index t 1 = (grid0.coords t 2).val
    ∧ win0_3.index t 2 = (grid0.coords t 1).val)

/-- The block of keys is that of the point's batch and key-value head. -/
theorem idx4 : ∀ t : Fin cfg0.N, win0_4.index t 0 = (grid0.coords t 0).val ∧ win0_4.index t 1 = 0
    ∧ win0_4.index t 2 = (grid0.coords t 1).val :=
  (by decide +kernel : ∀ t : Fin grid0.N, win0_4.index t 0 = (grid0.coords t 0).val ∧ win0_4.index t 1 = 0
    ∧ win0_4.index t 2 = (grid0.coords t 1).val)

/-- And so the block of values. -/
theorem idx5 : ∀ t : Fin cfg0.N, win0_5.index t 0 = (grid0.coords t 0).val ∧ win0_5.index t 1 = 0
    ∧ win0_5.index t 2 = (grid0.coords t 1).val :=
  (by decide +kernel : ∀ t : Fin grid0.N, win0_5.index t 0 = (grid0.coords t 0).val ∧ win0_5.index t 1 = 0
    ∧ win0_5.index t 2 = (grid0.coords t 1).val)

/-- The output block is at the place of the block of queries. -/
theorem idx6 : ∀ t : Fin cfg0.N, win0_6.index t 0 = (grid0.coords t 0).val ∧ win0_6.index t 1 = (grid0.coords t 2).val
    ∧ win0_6.index t 2 = (grid0.coords t 1).val :=
  (by decide +kernel : ∀ t : Fin grid0.N, win0_6.index t 0 = (grid0.coords t 0).val ∧ win0_6.index t 1 = (grid0.coords t 2).val
    ∧ win0_6.index t 2 = (grid0.coords t 1).val)

/-! ## The input blocks -/

theorem iblk0 (c : Dev nD) (t : Fin cfg0.N) : iblk m c 0 t = V m c main_arg3 := by
  funext j
  show V m c main_arg3 (((cfg0.win 0).blk t).view.emb j) = V m c main_arg3 j
  refine congrArg _ (funext fun a => Fin.ext ?_)
  match a with
  | 0 => show win0_0.index t 0 * 8 + 1 * (j 0).val = (j 0).val; rw [idx0]; omega

theorem iblk1 (c : Dev nD) (t : Fin cfg0.N) : iblk m c 1 t = V m c main_arg4 := by
  funext j
  show V m c main_arg4 (((cfg0.win 1).blk t).view.emb j) = V m c main_arg4 j
  refine congrArg _ (funext fun a => Fin.ext ?_)
  match a with
  | 0 => show win0_1.index t 0 * 2 + 1 * (j 0).val = (j 0).val; rw [idx1]; omega

theorem iblk2 (c : Dev nD) (t : Fin cfg0.N) : iblk m c 2 t = V m c main_arg5 := by
  funext j
  show V m c main_arg5 (((cfg0.win 2).blk t).view.emb j) = V m c main_arg5 j
  refine congrArg _ (funext fun a => Fin.ext ?_)
  match a with
  | 0 => show win0_2.index t 0 * 2 + 1 * (j 0).val = (j 0).val; rw [idx2]; omega

theorem iblk3 (c : Dev nD) (t : Fin cfg0.N) (r : Fin 256) (l : Fin 512) :
    iblk m c 3 t (ix3 0 r l) = V m c main_arg0 (ix3 (grid0.coords t 0)
      ⟨(grid0.coords t 2).val * 256 + r.val, by have : (grid0.coords t 2).val < 32 := (grid0.coords t 2).isLt; omega⟩
      ⟨(grid0.coords t 1).val * 512 + l.val, by have : (grid0.coords t 1).val < 2 := (grid0.coords t 1).isLt; omega⟩) := by
  obtain ⟨e0, e1, e2⟩ := idx3 t
  show V m c main_arg0 (((cfg0.win 3).blk t).view.emb (ix3 0 r l)) = _
  refine congrArg _ (funext fun a => Fin.ext ?_)
  match a with
  | 0 => show win0_3.index t 0 * 1 + 1 * 0 = (grid0.coords t 0).val; rw [e0]; omega
  | 1 => show win0_3.index t 1 * 256 + 1 * r.val = (grid0.coords t 2).val * 256 + r.val; rw [e1]; omega
  | 2 => show win0_3.index t 2 * 512 + 1 * l.val = (grid0.coords t 1).val * 512 + l.val; rw [e2]; omega

theorem iblk4 (c : Dev nD) (t : Fin cfg0.N) (r : Fin 8192) (l : Fin 128) :
    iblk m c 4 t (ix3 0 r l) = V m c main_arg1 (ix3 (grid0.coords t 0) r
      ⟨(grid0.coords t 1).val * 128 + l.val, by have : (grid0.coords t 1).val < 2 := (grid0.coords t 1).isLt; omega⟩) := by
  obtain ⟨e0, e1, e2⟩ := idx4 t
  show V m c main_arg1 (((cfg0.win 4).blk t).view.emb (ix3 0 r l)) = _
  refine congrArg _ (funext fun a => Fin.ext ?_)
  match a with
  | 0 => show win0_4.index t 0 * 1 + 1 * 0 = (grid0.coords t 0).val; rw [e0]; omega
  | 1 => show win0_4.index t 1 * 8192 + 1 * r.val = r.val; rw [e1]; omega
  | 2 => show win0_4.index t 2 * 128 + 1 * l.val = (grid0.coords t 1).val * 128 + l.val; rw [e2]; omega

theorem iblk5 (c : Dev nD) (t : Fin cfg0.N) (r : Fin 8192) (l : Fin 128) :
    iblk m c 5 t (ix3 0 r l) = V m c main_arg2 (ix3 (grid0.coords t 0) r
      ⟨(grid0.coords t 1).val * 128 + l.val, by have : (grid0.coords t 1).val < 2 := (grid0.coords t 1).isLt; omega⟩) := by
  obtain ⟨e0, e1, e2⟩ := idx5 t
  show V m c main_arg2 (((cfg0.win 5).blk t).view.emb (ix3 0 r l)) = _
  refine congrArg _ (funext fun a => Fin.ext ?_)
  match a with
  | 0 => show win0_5.index t 0 * 1 + 1 * 0 = (grid0.coords t 0).val; rw [e0]; omega
  | 1 => show win0_5.index t 1 * 8192 + 1 * r.val = r.val; rw [e1]; omega
  | 2 => show win0_5.index t 2 * 128 + 1 * l.val = (grid0.coords t 1).val * 128 + l.val; rw [e2]; omega

/-! ## The result array -/

/-- The attention of the arguments. -/
abbrev res (c : Dev nD) : Vec Ideal S8x8192x1024 .bf16 :=
  Attn.result (V m c main_arg0) (V m c main_arg1) (V m c main_arg2) (V m c main_arg3) (V m c main_arg4) (V m c main_arg5)

/-- A grid point writes back its block of the attention. -/
theorem flushed_eq (c : Dev nD) (t : Fin cfg0.N) :
    (dats m 0 c).flushed 6 t = ((cfg0.win 6).blk t).view.read (Elt Ideal) (res m c) := by
  obtain ⟨e0, e1, e2⟩ := idx6 t
  have hh : (grid0.coords t 1).val < 2 := (grid0.coords t 1).isLt
  show (cfg0.win 6).cut (grid0.coords t) ((dats m 0 c).after 6 t) = _
  rw [after0_6, iblk0, iblk1, iblk2]
  have hE := outBlk_eq (V m c main_arg0) (V m c main_arg1) (V m c main_arg2) (V m c main_arg3) (V m c main_arg4) (V m c main_arg5)
    (grid0.coords t 0) (grid0.coords t 1) (grid0.coords t 2) (iblk m c 3 t) (iblk m c 4 t) (iblk m c 5 t)
    (iblk3 m c t) (iblk4 m c t) (iblk5 m c t)
  funext j
  have j1 : (j 1).val < 256 := (j 1).isLt
  have j2 : (j 2).val < 512 := (j 2).isLt
  have j0 : (j 0).val < 1 := (j 0).isLt
  refine (congrFun hE j).trans (Eq.symm ?_)
  refine Attn.result_at _ _ _ _ _ _ (((cfg0.win 6).blk t).view.emb j) _ _ _ _ _ ?_ ?_ ?_
  · show win0_6.index t 0 * 1 + 1 * (j 0).val = (grid0.coords t 0).val
    rw [e0]; omega
  · show win0_6.index t 1 * 256 + 1 * (j 1).val = (grid0.coords t 2).val * 256 + (j 1).val
    rw [e1]; omega
  · show win0_6.index t 2 * 512 + 1 * (j 2).val = (grid0.coords t 1).val * 512 + (j 2).val / 128 * 128 + (j 2).val % 128
    rw [e2]; omega

/-- Every index of the array is in some point's block. -/
theorem covered (i : S8x8192x1024.Idx) :
    ∃ t : Fin cfg0.N, (cfg0.win 6).flush t = true ∧ i ∈ ((cfg0.win 6).blk t).view.set := by
  have h0 : (i 0).val < 8 := (i 0).isLt
  have h1 : (i 1).val < 8192 := (i 1).isLt
  have h2 : (i 2).val < 1024 := (i 2).isLt
  have hN : cfg0.N = 512 := N_0
  obtain ⟨t, ht⟩ : ∃ t : Fin cfg0.N, t.val = (i 0).val * 64 + (i 2).val / 512 * 32 + (i 1).val / 256 := ⟨⟨_, by omega⟩, rfl⟩
  obtain ⟨c0, c1, c2⟩ := coords_eq t
  obtain ⟨e0, e1, e2⟩ := idx6 t
  refine ⟨t, flush0_6 t, ?_⟩
  show i ∈ ((View.whole main_v0).slice (win0_6.rect t)).set
  rw [View.set_slice_whole, Rect.mem_set_unit]
  intro a
  match a with
  | 0 => show win0_6.index t 0 * 1 ≤ (i 0).val ∧ (i 0).val < win0_6.index t 0 * 1 + 1; rw [e0, c0]; omega
  | 1 => show win0_6.index t 1 * 256 ≤ (i 1).val ∧ (i 1).val < win0_6.index t 1 * 256 + 256; rw [e1, c2]; omega
  | 2 => show win0_6.index t 2 * 512 ≤ (i 2).val ∧ (i 2).val < win0_6.index t 2 * 512 + 512; rw [e2, c1]; omega

/-- The array after the run is the attention of the arguments. -/
theorem final6 (c : Dev nD) : (dats m 0 c).arrAt 6 cfg0.N = res m c :=
  (dats m 0 c).arrAt_eq_of_cover 6 (res m c) (fun t _ => flushed_eq m c t) covered

/-- The run: the result is the attention of the arguments, and the arguments are unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 6).trans (final6 m c),
      ((h c).1 3).trans (((dats m 0 c).arrAt_in 3 rfl _).trans ((A_eq m c 3).trans (V_main_arg0 m c))),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c)))⟩)
    (run_main m ρ)

end Cert.KernelIdeal.Hand

end
-- ==== Proof.RI.Value.lean ====
module

public import proofs.«01_k».proof.Proof.Gen.ReferenceIdeal.Value
public import proofs.«01_k».proof.Proof.Math.Score

/-!
The reference, index by index: it is `Attn.result` of its arguments.
-/

@[expose] public section

set_option maxRecDepth 16384

noncomputable section

namespace Cert.ReferenceIdeal.Hand

open Cert.ReferenceIdeal Cert.ReferenceIdeal.Gen
open Idealize.ShloMosaic

variable (x : Vec Ideal S8x8192x1024 .fp8e4m3) (k v : Vec Ideal S8x8192x256 .fp8e4m3)
  (qs : Vec Ideal S8 .f32) (ks vs : Vec Ideal S2 .f32)

/-- The reference's exponentials. -/
theorem exp_apply (B : Fin 8) (h : Fin 2) (g : Fin 4) (s t : Fin 8192) :
    k0_pay3 x k qs ks (ix5 B h g s t)
      = Ideal.exp (Attn.score x k qs ks B h g s t - Attn.top (Attn.score x k qs ks B h g s)) := by
  pointwise [k0_pay3]
  simp only [Attn.top, Attn.score, Attn.ofBits_bot, Attn.select_window _ _ (Fin.isLt _) (Fin.isLt _)]
  rfl

/-- The reciprocal of their sum. -/
theorem mass_apply (B : Fin 8) (h : Fin 2) (g : Fin 4) (s t : Fin 8192) :
    k0_pay4 x k qs ks (ix5 B h g s t) = Ideal.div 1 (Attn.mass (Attn.score x k qs ks B h g s)) := by
  have e : k0_pay4 x k qs ks (ix5 B h g s t) = Ideal.div 1 (∑ y, k0_pay3 x k qs ks (ix5 B h g s y)) := by
    pointwise [k0_pay4]
  rw [e]
  simp only [exp_apply, Attn.mass]

/-- The reference's result. -/
theorem out_apply : Value.G6 x k v qs ks vs = Attn.result x k v qs ks vs := by
  funext j
  obtain ⟨B, s, c, rfl⟩ : ∃ B s c, j = ix3 B s c := ⟨_, _, _, eq_ix3 j⟩
  have e : ∀ e l : FVec Ideal S8x2x4x8192x8192 .f32, k0_pay1 (k0_pay2 v) e l vs (ix3 B s c)
      = (∑ t, v (ix3 B t ⟨c.val / 512 * 128 + c.val % 128, by omega⟩)
          * Attn.clip (e (ix5 B ⟨c.val / 512, by omega⟩ ⟨c.val / 128 % 4, by omega⟩ s t)
            * l (ix5 B ⟨c.val / 512, by omega⟩ ⟨c.val / 128 % 4, by omega⟩ s t) * ((256 : ℝ) : EReal)))
        * (vs (ix1 ⟨c.val / 512, by omega⟩) * Ideal.ofBits .f32 0x3B800000#32) := by
    intro e l
    pointwise [k0_pay1, k0_pay2]
    simp only [Attn.clip, Attn.ofBits_448, Attn.ofBits_neg448, Attn.ofBits_256]
  refine (e _ _).trans ?_
  simp only [exp_apply, mass_apply]
  rfl

end Cert.ReferenceIdeal.Hand

end
-- ==== Proof.Algebraic.lean ====
module

public import proofs.«01_k».proof.Defs
public import proofs.«01_k».proof.Proof.KI.Value
public import proofs.«01_k».proof.Proof.RI.Value

/-!
The equation: on equal arguments the kernel and the reference end with the attention of those arguments.
-/

@[expose] public section

noncomputable section

namespace Cert.Proof

open Idealize.ShloMosaic Idealize.SL.Sem

/-- From memories that agree on the arguments, both programs end with equal results, whatever the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact Cert.ReferenceIdeal.Hand.out_apply _ _ _ _ _ _

end Cert.Proof

end
-- ==== Proof.lean ====
/- The claims of this certificate, put together: the frames of the three programs, `preserves`, and the equation of the kernel and
   the reference (Proof/Algebraic.lean), behind the witnesses of the programs' stated facts (the generated Proof/Gen/ modules). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.P.Run
public import proofs.«01_k».proof.Proof.KI.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The printed constant is the value its name is given: the reciprocal of the logarithm of two. -/
theorem preserves : Cert.preserves_Kernel_KernelIdeal :=
  IdealRules.named_const.statement Cert.KernelIdeal.κ "log2e" .f32 0x3FB8AA3B#32 (((Real.log 2)⁻¹ : ℝ) : EReal) rfl

/-- Every claim of the certificate. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, preserves, algebraic⟩

end Cert.Proof

end
